-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1024, 1]⟩ ⟨2, ![2048, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S8x128 : Shape := ⟨2, ![8, 128]⟩
abbrev S2x8x128 : Shape := ⟨3, ![2, 8, 128]⟩
abbrev S_ : Shape := ⟨0, ![]⟩
abbrev S1024 : Shape := ⟨1, ![1024]⟩
abbrev S1x8x128 : Shape := ⟨3, ![1, 8, 128]⟩
abbrev S1024x1 : Shape := ⟨2, ![1024, 1]⟩

abbrev nBuf : Space → Nat
  | .hbm => 3
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S8x128, .f32⟩
  | .hbm, ⟨2, _⟩ => ⟨S1024x1, .f32⟩
  | .local _ .vmem, ⟨0, _⟩ => ⟨S1024x512, .f32⟩
  | .local _ .vmem, ⟨1, _⟩ => ⟨S8x128, .f32⟩
  | .local _ .vmem, ⟨2, _⟩ => ⟨S2x8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_14 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_13 : BitVec 32 := 2#32
  let v19 : BitVec 32 := Scalar.muli v2 c2_i32_13
  let v20 : BitVec 32 := Scalar.addi c0_i32_14 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v21 : BitVec 32 := Scalar.muli v6 c1_i32_15
  let v22 : BitVec 32 := Scalar.addi v20 v21
  v22.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S_, .f32⟩
  | .hbm, ⟨5, _⟩ => ⟨S2048x1, .f32⟩
  | .hbm, ⟨6, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Ideal.Slots.lean ====
/- The exchange buffer of the row mean (instance `KernelIdeal`): a `2 × 8 × 128` scratch used as two blocks. Block 0 is written by the
   device itself with its own partial row sums and read by its outgoing copy; block 1 is written by the
   incoming copy of its row neighbour. This module splits the buffer into the two blocks and joins it again, and
   says what one copy carries from a block 0 into a block 1. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ghost state: the staging cells' rounds, and the exchange's own. -/
abbrev Gh : Type := UR sig nD τ × URounds (GSem nD τ sig) Unit

local notation "𝕄" => MT nD τ sig Unit (Elt F) ℕ Gh ℕ

/-- Where the staging cells' ghost state lies, -/
abbrev EP : Emb (UR sig nD τ) (MT nD τ sig Unit (Elt F) ℕ Gh ℕ) := embL
/-- and where the exchange's does. -/
abbrev EX : Emb (URounds (GSem nD τ sig) Unit) (MT nD τ sig Unit (Elt F) ℕ Gh ℕ) := embR

/-! ## The buffer and its two blocks -/

/-- The whole exchange buffer. -/
abbrev scr : Memref sig .tc .vmem S2x8x128 .f32 := Memref.whole cc0_scratch0

/-- The box of block 0 and that of block 1. -/
abbrev box0 : Rect S2x8x128 := Rect.unit (s := S2x8x128) ![0, 0, 0] S1x8x128.size inb_S2x8x128_S1x8x128_0_0_0
abbrev box1 : Rect S2x8x128 := Rect.unit (s := S2x8x128) ![1, 0, 0] S1x8x128.size inb_S2x8x128_S1x8x128_1_0_0

/-- The blocks as the copies name them, `8 × 128` each. -/
abbrev blk0 : Memref sig .tc .vmem S8x128 .f32 := (scr.slice box0 (fun _ => rfl)).squeeze S8x128 squeezes_S1x8x128_S8x128
abbrev blk1 : Memref sig .tc .vmem S8x128 .f32 := (scr.slice box1 (fun _ => rfl)).squeeze S8x128 squeezes_S1x8x128_S8x128

/-- A block's elements are those of its box. -/
theorem blk0_set : blk0.view.set = (scr.access box0).set := View.set_reshape _ _
theorem blk1_set : blk1.view.set = (scr.access box1).set := View.set_reshape _ _

theorem box0_set : (scr.access box0).set = box0.set := View.set_slice_whole ..
theorem box1_set : (scr.access box1).set = box1.set := View.set_slice_whole ..

/-- The elements of the block a number names. -/
abbrev blkSet : Fin 2 → Finset S2x8x128.Idx := fun | 0 => box0.set | 1 => box1.set

/-- An element lies in the block its first coordinate names. -/
theorem mem_blkSet (k : Fin 2) (i : S2x8x128.Idx) : i ∈ blkSet k ↔ (i 0).val = k.val := by
  have h1 := (i 1).isLt
  have h2 := (i 2).isLt
  fin_cases k
  · rw [show blkSet ((fun i => i) ⟨0, by decide⟩) = box0.set from rfl, Rect.mem_set_unit]
    constructor
    · intro h; have := h 0; simp at this; simp; omega
    · intro h a; fin_cases a
      · simp at h ⊢; omega
      · exact ⟨Nat.zero_le _, by simpa using h1⟩
      · exact ⟨Nat.zero_le _, by simpa using h2⟩
  · rw [show blkSet ((fun i => i) ⟨1, by decide⟩) = box1.set from rfl, Rect.mem_set_unit]
    constructor
    · intro h; have := h 0; simp at this; simp; omega
    · intro h a; fin_cases a
      · simp at h ⊢; omega
      · exact ⟨Nat.zero_le _, by simpa using h1⟩
      · exact ⟨Nat.zero_le _, by simpa using h2⟩

theorem blkSet_disjoint (k k' : Fin 2) (h : k ≠ k') : Disjoint (blkSet k) (blkSet k') := by
  rw [Finset.disjoint_left]
  intro i hi hi'
  exact h (Fin.ext (((mem_blkSet k i).mp hi).symm.trans ((mem_blkSet k' i).mp hi')))

theorem blkSet_cover : Finset.univ.biUnion blkSet = Finset.univ := by
  ext i
  simp only [Finset.mem_biUnion, Finset.mem_univ, true_and, iff_true]
  exact ⟨⟨(i 0).val, (i 0).isLt⟩, (mem_blkSet _ i).mpr rfl⟩

/-- Device `c` holds its block 0, reading `v`. -/
def Blk0 (c : Dev nD) (v : Vec F S1x8x128 .f32) : sProp 𝕄 :=
  iprop(∃ f : Buf (Elt F) (blk0.view.loc (c : Thread nD τ)), ⌜scr.view.readAt (Elt F) box0.toLoadRect f = v⌝
    ∗ (blk0.view.loc (c : Thread nD τ) ↦[blk0.view.set]{fullShare} f))
/-- Device `c`'s block 1, reading `v`. -/
def Blk1 (c : Dev nD) (v : Vec F S1x8x128 .f32) : sProp 𝕄 :=
  iprop(∃ f : Buf (Elt F) (blk1.view.loc (c : Thread nD τ)), ⌜scr.view.readAt (Elt F) box1.toLoadRect f = v⌝
    ∗ (blk1.view.loc (c : Thread nD τ) ↦[blk1.view.set]{fullShare} f))

instance Blk0_storable (c : Dev nD) (v : Vec F S1x8x128 .f32) : BI.Storable (upEmb : UEmb _ 𝕄) (Blk0 c v) := by
  unfold Blk0; infer_instance
instance Blk1_storable (c : Dev nD) (v : Vec F S1x8x128 .f32) : BI.Storable (upEmb : UEmb _ 𝕄) (Blk1 c v) := by
  unfold Blk1; infer_instance

/-- The whole buffer at some contents is the two blocks at some contents, -/
theorem split_scr (c : Dev nD) :
    (iprop(∃ f : Buf (Elt F) ((c : Thread nD τ).loc cc0_scratch0), ((c : Thread nD τ).loc cc0_scratch0) ↦{fullShare} f) : sProp 𝕄)
      ⊢ iprop((∃ v, Blk0 c v) ∗ ∃ v, Blk1 c v) := by
  iintro H
  ihave H2 := (Ring.slots2_split (ℓ := (c : Thread nD τ).loc cc0_scratch0) blkSet blkSet_disjoint blkSet_cover (q := fullShare)
    (fun f => (blk0.view.loc (c : Thread nD τ) ↦[blk0.view.set]{fullShare} f : sProp 𝕄))
    (fun f => (blk1.view.loc (c : Thread nD τ) ↦[blk1.view.set]{fullShare} f : sProp 𝕄))
    (fun f => by rw [blk0_set, box0_set]) (fun f => by rw [blk1_set, box1_set])) $$ H
  icases H2 with ⟨⟨%f0, H0⟩, ⟨%f1, H1⟩⟩
  unfold Blk0 Blk1
  isplitl [H0]
  · iexists _; iexists f0; isplitr; · ipureintro; rfl
    iexact H0
  · iexists _; iexists f1; isplitr; · ipureintro; rfl
    iexact H1

/-- and back. -/
theorem join_scr (c : Dev nD) (v w : Vec F S1x8x128 .f32) :
    (iprop(Blk0 c v ∗ Blk1 c w) : sProp 𝕄)
      ⊢ iprop(∃ f : Buf (Elt F) ((c : Thread nD τ).loc cc0_scratch0), ((c : Thread nD τ).loc cc0_scratch0) ↦{fullShare} f) := by
  unfold Blk0 Blk1
  iintro ⟨⟨%f0, -, H0⟩, ⟨%f1, -, H1⟩⟩
  iapply (Ring.slots2_join (ℓ := (c : Thread nD τ).loc cc0_scratch0) blkSet blkSet_disjoint blkSet_cover (q := fullShare)
    (fun f => (blk0.view.loc (c : Thread nD τ) ↦[blk0.view.set]{fullShare} f : sProp 𝕄))
    (fun f => (blk1.view.loc (c : Thread nD τ) ↦[blk1.view.set]{fullShare} f : sProp 𝕄))
    (fun f => by rw [blk0_set, box0_set]) (fun f => by rw [blk1_set, box1_set]))
  isplitl [H0]; · iexists f0; iexact H0
  iexists f1; iexact H1

/-- What a copy of block 0 (contents `fs`) into a block 1 (contents `fd`) leaves there to be read: what block 0 reads. -/
theorem read_copied (fs fd : (cc0_scratch0 : Ref sig .tc).ty.Contents (Elt F)) :
    scr.view.readAt (Elt F) box1.toLoadRect (blk1.view.write (Elt F) fd (blk0.view.read (Elt F) fs) Finset.univ)
      = scr.view.readAt (Elt F) box0.toLoadRect fs := by
  have h := View.read_write_univ (Val := Elt F) (v := blk1.view) fd (blk0.view.read (Elt F) fs)
  funext j
  have hj := congrFun h ((Shape.reshapeEquiv squeezes_S1x8x128_S8x128.numel_eq).symm j)
  rw [View.read_apply, View.read_apply] at hj
  have e0 : blk0.view.emb ((Shape.reshapeEquiv squeezes_S1x8x128_S8x128.numel_eq).symm j) = (scr.access box0).emb j := by
    show ((scr.access box0).reshape S8x128 squeezes_S1x8x128_S8x128.numel_eq).emb _ = _
    rw [View.emb_reshape]; exact congrArg (scr.access box0).emb (Equiv.apply_symm_apply _ j)
  have e1 : blk1.view.emb ((Shape.reshapeEquiv squeezes_S1x8x128_S8x128.numel_eq).symm j) = (scr.access box1).emb j := by
    show ((scr.access box1).reshape S8x128 squeezes_S1x8x128_S8x128.numel_eq).emb _ = _
    rw [View.emb_reshape]; exact congrArg (scr.access box1).emb (Equiv.apply_symm_apply _ j)
  rw [e0, e1] at hj
  exact hj

/-- A whole store to block 0 leaves there what was stored. -/
theorem read_stored (f : (cc0_scratch0 : Ref sig .tc).ty.Contents (Elt F)) (w : Vec F S1x8x128 .f32) :
    scr.view.readAt (Elt F) box0.toLoadRect ((scr.access box0 : View sig .tc _ _ _).write (Elt F) f w Finset.univ) = w :=
  View.read_write_univ (v := scr.access box0) f w

end Cert.KernelIdeal.Exchange

end
-- ==== Proof.Ideal.Protocol.lean ====
/- The protocol of the row mean (instance `KernelIdeal`). Every device has one neighbour in its row of the 2 × 2
   mesh. Three semaphores per device: the barrier's (the neighbour signals it, handing over the neighbour's block 1),
   the receive semaphore (credited by the neighbour's copy when its partial sums have landed here) and the send
   semaphore (credited when the device's own copy has been read). Each is used for one round. This module names the
   cells, what each round hands over, what a device owes at launch, and the order in which the waits may happen. -/
module

public import proofs.«01_k».proof.Proof.Ideal.Slots

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Gh ℕ

/-! ## Neighbours -/

set_option backward.proofsInPublic true in
/-- The other device of the row of the mesh `c` lies in. -/
def mate (c : Dev nD) : Dev nD :=
  ⟨2 * (c.val / 2) + 1 - c.val % 2, by have := c.isLt; revert this; generalize c.val = v; decide +revert⟩

theorem mate_mate (c : Dev nD) : mate (mate c) = c := by revert c; decide

/-- The device the signal addresses and the device the copy addresses are both the neighbour. -/
theorem dev1_mate (c : Dev nD) : (⟨k0_dev1 c, k0_dev1_lt c⟩ : Dev nD) = mate c := Fin.ext (k0_dev1_eq c)
theorem dev2_mate (c : Dev nD) : (⟨k0_dev2 c, k0_dev2_lt c⟩ : Dev nD) = mate c := Fin.ext (k0_dev2_eq c)

/-- Neighbours as a permutation of the devices. -/
def mates : Dev nD ≃ Dev nD := ⟨mate, mate, mate_mate, mate_mate⟩

/-! ## The cells -/

/-- What a semaphore of the exchange is for. -/
inductive Role | gate | sent | got
  deriving DecidableEq

instance : Fintype Role := ⟨{.gate, .sent, .got}, fun k => by cases k <;> decide⟩

/-- The semaphore of a role: the barrier, the send and the receive semaphore. -/
abbrev Role.sem : Role → SemLoc sig
  | .gate => .reg (SemArray.scalar (sig.barrier 0 rfl) : Sems sig S_).sem
  | .sent => .dma cc0_scratch1.sem
  | .got => .dma cc0_scratch2.sem

/-- The role of a semaphore, if it has one here. -/
def roleOf (s : SemLoc sig) : Option Role :=
  if s = Role.gate.sem then some .gate else if s = Role.sent.sem then some .sent else if s = Role.got.sem then some .got else none

theorem roleOf_sem (k : Role) : roleOf k.sem = some k := by cases k <;> decide
theorem sem_inj : Function.Injective Role.sem := fun k k' h => by
  have := (roleOf_sem k).symm.trans ((congrArg roleOf h).trans (roleOf_sem k'))
  exact Option.some.inj this

/-- Device `c`'s cell of a role. -/
abbrev cell (k : Role) (c : Dev nD) : GSem nD τ sig := ((c : Thread nD τ), k.sem)

/-- What a copy of a block credits. -/
abbrev blkCredit : ℕ := blk1.view.dmaCredit
theorem blkCredit_pos : 0 < blkCredit := View.dmaCredit_pos _ (by decide)

/-- The amount of a role's round: one signal, or one block. -/
def units : Role → ℕ | .gate => 1 | _ => blkCredit
theorem units_pos (k : Role) : 0 < units k := by
  cases k
  · exact Nat.one_pos
  · exact blkCredit_pos
  · exact blkCredit_pos

/-! ## What the rounds hand over -/

section Sched
variable (p : Dev nD → Vec F S1x8x128 .f32)

/-- What device `c` obtains at the end of a role's round, the partial sums of device `d` being `p d`: from the
    barrier the neighbour's block 1, that it may be written, and that the neighbour's receive cell is open; from the send semaphore the own block 0 back; from the
    receive semaphore the own block 1, holding the neighbour's sums. -/
def pay : Role → Dev nD → sProp 𝕄
  | .gate, c => iprop((∃ w, Blk1 (mate c) w) ∗ reached EX (cell .got (mate c)) 0)
  | .sent, c => Blk0 c (p c)
  | .got, c => Blk1 c (p (mate c))

instance pay_storable (k : Role) (c : Dev nD) : BI.Storable (upEmb : UEmb _ 𝕄) (pay p k c) := by
  cases k <;> unfold pay <;> infer_instance

/-- One round per cell of the exchange, with one payer. -/
def sched : Rounds.Schedule (GSem nD τ sig) Unit 𝕄 where
  duties g r := if r = 0 ∧ g.1.2 = .tc ∧ (roleOf g.2).isSome then {()} else ∅
  unitless _ := False
  amount g _ _ := match roleOf g.2 with | some k => units k | none => 1
  payload g _ _ := match roleOf g.2 with | some k => pay p k g.1.1 | none => iprop(emp)
  amount_pos g _ _ _ := by
    cases roleOf g.2 with
    | none => exact Nat.one_pos
    | some k => exact units_pos k

instance sched_storable (g : GSem nD τ sig) (r : ℕ) (d : Unit) : BI.Storable (upEmb : UEmb _ 𝕄) ((sched p).payload g r d) := by
  show BI.Storable upEmb (match roleOf g.2 with | some k => pay p k g.1.1 | none => iprop(emp))
  cases roleOf g.2 <;> dsimp only <;> infer_instance

variable (k : Role) (c : Dev nD)

theorem duties_at : (sched p).duties (cell k c) 0 = {()} := by
  dsimp only [sched]; exact if_pos ⟨rfl, rfl, by rw [roleOf_sem]; rfl⟩
theorem duty_mem (u : Unit) : u ∈ (sched p).duties (cell k c) 0 := by rw [duties_at]; exact Finset.mem_singleton_self _
/-- No cell has a second round. -/
theorem duties_done (g : GSem nD τ sig) (r : ℕ) (hr : 1 ≤ r) : (sched p).duties g r = ∅ := by
  dsimp only [sched]; exact if_neg fun h => by omega
theorem amount_at (u : Unit) : (sched p).amount (cell k c) 0 u = units k := by dsimp only [sched]; rw [roleOf_sem]
theorem payload_at (u : Unit) : (sched p).payload (cell k c) 0 u = pay p k c := by dsimp only [sched]; rw [roleOf_sem]
theorem expect_at : (sched p).expect (cell k c) 0 = units k := by
  unfold Schedule.expect Schedule.amountOf; rw [duties_at, Finset.sum_singleton, amount_at]
/-- What a wait for the whole round yields. -/
theorem yield_at : bigSep ((sched p).duties (cell k c) 0 \ ∅) (fun u => (sched p).payload (cell k c) 0 u) = pay p k c := by
  rw [Finset.sdiff_empty, duties_at, bigSep_singleton, payload_at]

end Sched

/-! ## What a device owes, and the order of the waits -/

/-- At launch device `c` owes its neighbour a block's credit on the receive semaphore and a barrier signal. -/
def debt (c : Dev nD) : CellTallies nD τ sig Unit :=
  tallyAt (cell .got (mate c)) () blkCredit + tallyAt (cell .gate (mate c)) () 1

/-- The cells that have a level: those of the TensorCores. -/
def Lv (g : GSem nD τ sig) : Finset Unit := if g.1.2 = .tc then {()} else ∅
/-- The barrier is waited for before the receive semaphore; everything else owes nothing to anyone. -/
def lvl (g : GSem nD τ sig) (_ : Unit) : ℕ := match roleOf g.2 with | some .gate => 1 | some .got => 2 | _ => 0

theorem Lv_of_ne (g : GSem nD τ sig) (h : g.1.2 ≠ .tc) : Lv g = ∅ := if_neg h
theorem mem_Lv (c : Dev nD) (s : SemLoc sig) (u : Unit) : u ∈ Lv ((c : Thread nD τ), s) := by
  rw [show Lv ((c : Thread nD τ), s) = {()} from if_pos rfl]; exact Finset.mem_singleton_self _
theorem lvl_cell (k : Role) (c : Dev nD) (u : Unit) : lvl (cell k c) u = match k with | .gate => 1 | .sent => 0 | .got => 2 := by
  unfold lvl; rw [roleOf_sem]; cases k <;> rfl

/-- Where a tally at one cell is positive. -/
theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

/-- What is owed at launch is owed on the neighbour's cells. -/
theorem debt_pos {c : Dev nD} {g : GSem nD τ sig} {u : Unit} (h : 0 < debt c g u) : g = cell .got (mate c) ∨ g = cell .gate (mate c) := by
  unfold debt at h
  rw [Pi.add_apply, Finsupp.add_apply] at h
  rcases Nat.add_pos_iff_pos_or_pos.mp h with h | h
  · exact .inl (tally_pos h)
  · exact .inr (tally_pos h)

/-- The barrier may be waited for while the copy is still owed. -/
theorem gate_may_wait (c : Dev nD) :
    (levAts Lv lvl : sProp 𝕄) ⊢ MayWait (c : Thread nD τ) Role.gate.sem () (tallyAt (cell .got (mate c)) () blkCredit) :=
  MayOwe.of_cut (L := Lv) (lev := lvl) 1 (fun q hq => by rw [Finset.mem_singleton.mp hq]; exact mem_Lv c _ _)
    (fun g u hg => by rw [tally_pos hg]; exact mem_Lv (mate c) _ _)
    (fun q hq => by rw [Finset.mem_singleton.mp hq]; exact le_of_eq (lvl_cell .gate c ()))
    (fun g u hg => by rw [tally_pos hg, lvl_cell]; decide)

end Cert.KernelIdeal.Exchange

end
-- ==== Proof.Ideal.Steps.lean ====
/- The steps of the row mean's body (instance `KernelIdeal`), each as one rule: the signal to the neighbour, a wait for a
   whole round of an own cell, the copy of the own partial sums to the neighbour, and the loads and stores through
   the blocks of the exchange buffer and through the two staging buffers. -/
module

public import proofs.«01_k».proof.Proof.Ideal.Protocol
public import Idealize.ShloMosaic.Lib.Tactic

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Gh ℕ

/-- The program declares no loop variants. -/
abbrev 𝒱₀ : Variants := Variants.none

section Steps
variable (p : Dev nD → Vec F S1x8x128 .f32) (κ : GSem nD τ sig → ℕ)

/-- Every cell of the exchange is under its invariant, at the names `κ`. -/
def Invs : sProp 𝕄 := bigSep Finset.univ fun kc : Role × Dev nD => cellInv EX (sched p) (κ (cell kc.1 kc.2)) (cell kc.1 kc.2)

instance Invs_persistent : BI.Persistent (Invs (F := F) p κ) := by unfold Invs; infer_instance

theorem Invs_at (k : Role) (c : Dev nD) : Invs p κ ⊢ (cellInv EX (sched p) (κ (cell k c)) (cell k c) : sProp 𝕄) :=
  bigSep_elim (Φ := fun kc : Role × Dev nD => (cellInv EX (sched p) (κ (cell kc.1 kc.2)) (cell kc.1 kc.2) : sProp 𝕄)) (Finset.mem_univ (k, c))

/-- THE SIGNAL. Device `c` pays its barrier debt with its own block 1 and goes on owing the copy alone. -/
theorem signal_step {α : Type} {Q : α → sProp 𝕄} {k : PUnit → Prog (TpuEff nD τ sig (Elt F) Λ₀ .tc) α} (c d : Dev nD) (hd : d = mate c) (n) (hn : 1 = n) (W : Waits sig Unit) (w : Vec F S1x8x128 .f32) :
    iprop(Invs p κ ∗ owes (c : Thread nD τ) (debt c) W ∗ dutyTok EX (cell .gate (mate c)) 0 ()
        ∗ reached EX (cell .gate (mate c)) 0 ∗ reached EX (cell .got c) 0 ∗ Blk1 c w)
      ⊢ iprop((owes (c : Thread nD τ) (tallyAt (cell .got (mate c)) () blkCredit) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (d : Thread nD τ) (SemArray.scalar (sig.barrier 0 rfl) : Sems sig S_).sem n) k) Q) := by
  subst hd hn
  iintro ⟨#HI, HO, Ht, #Hr, #Hg, Hb⟩
  iapply (Rounds.wp_signal 𝒱₀ EX (sched p) (c : Thread nD τ) none (dst := (mate c : Thread nD τ)) (κ := κ (cell .gate (mate c)))
    (duty_mem p .gate (mate c) ()) (amount_at p .gate (mate c) ()) () (tallyAt (cell .got (mate c)) () blkCredit) rfl)
  isplitr; · iapply (Invs_at p κ .gate (mate c)); iexact HI
  isplitl [HO]; · iexact HO
  isplitl [Ht]; · iexact Ht
  isplitl [Hb]
  · irw [payload_at p .gate (mate c) ()]
    unfold pay
    dsimp only
    irw [mate_mate c]
    isplitl [Hb]; · iexists w; iexact Hb
    iexact Hg
  iexact Hr

/-- A WAIT for a whole round of an own cell: what the round hands over is the device's. -/
theorem await_step {α : Type} {Q : α → sProp 𝕄} {k : PUnit → Prog (TpuEff nD τ sig (Elt F) Λ₀ .tc) α} (r : Role) (c : Dev nD) {w : TpuEff nD τ sig (Elt F) Λ₀ .tc PUnit} {n : ℕ}
    (hw : ∀ K : PUnit → sProp 𝕄, wpE (defs₀ (F := F)) 𝒱₀ (c : Thread nD τ) none Set.univ w K = waitSpec (c : Thread nD τ) Set.univ r.sem n K)
    (hn : n = units r) (O : CellTallies nD τ sig Unit) (W : Waits sig Unit) :
    iprop(Invs p κ ∗ cred (tallyAt (cell r c) () (units r)) ∗ owes (c : Thread nD τ) O W ∗ MayWait (c : Thread nD τ) r.sem () O
        ∗ atPos EX (cell r c) 0 ∅ 0)
      ⊢ iprop(((∃ W', owes (c : Thread nD τ) O W') ∗ atPos EX (cell r c) 1 ∅ 0 ∗ pay p r c
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hn
  iintro ⟨#HI, Hc, HO, Hm, Hat⟩ Hk
  iapply (Rounds.wp_wait_rest_token 𝒱₀ EX (sched p) (c : Thread nD τ) none (κ := κ (cell r c)) hw (Set.mem_univ _) ()
    (O := O) (W := W) (R := 0) (m := 0) (T := ∅) (by rw [expect_at, Nat.zero_add])) $$ [Hc HO Hm Hat]
  · isplitr; · iapply (Invs_at p κ r c); iexact HI
    isplitl [Hc]; · iexact Hc
    isplitl [HO]; · iexact HO
    isplitl [Hm] <;> iassumption
  iintro ⟨HO, Hat, -, Hp⟩
  iapply Hk
  isplitl [HO]; · iexists _; iexact HO
  isplitl [Hat]; · iexact Hat
  iapply (Entails.of_eq (yield_at p r c)); iexact Hp

/-- THE COPY of block 0 into the neighbour's block 1. Device `c` owes nothing more; its block 0 comes back with the
    send semaphore's round, the neighbour's block 1 goes to the neighbour with the receive semaphore's. -/
theorem copy_step {α : Type} {Q : α → sProp 𝕄} {k : PUnit → Prog (TpuEff nD τ sig (Elt F) Λ₀ .tc) α} (c d : Dev nD) (hd : d = mate c)
    {hsc : (blk1 : Memref sig (Dev.tc d : Thread nD τ).2.kind .vmem S8x128 .f32).view.ref.isScScratch = false}
    {hsrc : blk0.view.WordExact} {hdst : (blk1 : Memref sig (Dev.tc d : Thread nD τ).2.kind .vmem S8x128 .f32).view.WordExact}
    {hsem : DmaTarget.Typed .vmem Role.got.sem (.remote (Dev.tc d : Thread nD τ) (blk1 : Memref sig (Dev.tc d : Thread nD τ).2.kind .vmem S8x128 .f32) Role.sent.sem hsc)}
    (W : Waits sig Unit) (w : Vec F S1x8x128 .f32) :
    iprop(Invs p κ ∗ Blk0 c (p c) ∗ Blk1 (mate c) w ∗ owes (c : Thread nD τ) (tallyAt (cell .got (mate c)) () blkCredit) W
        ∗ dutyTok EX (cell .sent c) 0 () ∗ reached EX (cell .sent c) 0
        ∗ dutyTok EX (cell .got (mate c)) 0 () ∗ reached EX (cell .got (mate c)) 0)
      ⊢ iprop(((cred (tallyAt (cell .sent c) () blkCredit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma blk0 (.remote (Dev.tc d : Thread nD τ) blk1 Role.sent.sem hsc) Role.got.sem hsrc hdst hsem) k) Q) := by
  subst hd
  unfold Blk0 Blk1
  iintro ⟨#HI, ⟨%fs, %hs, H0⟩, ⟨%fd, -, H1⟩, HO, Ht, #Hr, Ht', #Hr'⟩
  iapply (Rounds.wp_send_pointsTo 𝒱₀ EX (sched p) (c : Thread nD τ) none (κ₁ := κ (cell .sent c)) (κ₂ := κ (cell .got (mate c)))
    (r₁ := 0) (r₂ := 0) (d₁ := ()) (d₂ := ()) (fs := fs) (fd := fd)
    (duty_mem p .sent c ()) (duty_mem p .got (mate c) ()) () () blkCredit rfl
    (amount_at p .sent c ()) (amount_at p .got (mate c) ()) 0 (by rw [zero_add]) (W := W)
    (by
      rw [payload_at]; unfold pay Blk0
      iintro H; iexists fs; isplitr; · ipureintro; exact hs
      iexact H)
    (by
      rw [payload_at]; unfold pay Blk1
      iintro H; iexists _
      isplitr
      · ipureintro
        rw [mate_mate, ← hs]; exact read_copied fs fd
      iexact H))
  isplitr; · iapply (Invs_at p κ .sent c); iexact HI
  isplitr; · iapply (Invs_at p κ .got (mate c)); iexact HI
  isplitl [H0]; · iexact H0
  isplitl [H1]; · iexact H1
  isplitl [HO]; · iexact HO
  isplitl [Ht]; · iexact Ht
  isplitr; · iexact Hr
  isplitl [Ht']; · iexact Ht'
  iexact Hr'

/-- A cell whose round is over is closed: its counter is the device's again, at zero. -/
theorem close_step (r : Role) (c : Dev nD) :
    iprop(Invs p κ ∗ atPos EX (cell r c) 1 ∅ 0) ⊢ (|={Set.univ}=> semVal (cell r c) 0 : sProp 𝕄) := by
  iintro ⟨#HI, Hat⟩
  iapply (Rounds.cell_close EX (sched p) (Set.mem_univ (κ (cell r c))) (fun h => h) (R := 1) (duties_done p (cell r c)))
  isplitr; · iapply (Invs_at p κ r c); iexact HI
  iexact Hat

end Steps

/-! ## Loads and stores -/

section Access
/-- A load of block 0 reads what it holds. -/
theorem load_blk0 {α : Type} {Q : α → sProp 𝕄} (c : Dev nD) {hl : scr.view.LoadsAt box0.toLoadRect} {k : Vec F S1x8x128 .f32 → Prog (TpuEff nD τ sig (Elt F) Λ₀ .tc) α} (v : Vec F S1x8x128 .f32) :
    Blk0 c v ⊢ iprop((Blk0 c v -∗ wp frame (wpE (defs₀ (F := F)) 𝒱₀ (c : Thread nD τ) none) Set.univ (k v) Q)
      -∗ wp frame (wpE (defs₀ (F := F)) 𝒱₀ (c : Thread nD τ) none) Set.univ (.op (.load scr box0.toLoadRect hl) k) Q) := by
  unfold Blk0
  iintro ⟨%f, %hf, H⟩ Hk
  iapply (wp_load 𝒱₀ (c : Thread nD τ) none Set.univ (m := scr) (r := box0.toLoadRect) (by rw [blk0_set]; exact Memref.setOn_subset_of_access_subset (c := (c : Thread nD τ)) (Finset.Subset.refl _))) $$ H
  iintro H
  rw [hf]
  iapply Hk
  iexists f; isplitr; · ipureintro; exact hf
  iexact H

/-- A load of block 1 likewise. -/
theorem load_blk1 {α : Type} {Q : α → sProp 𝕄} (c : Dev nD) {hl : scr.view.LoadsAt box1.toLoadRect} {k : Vec F S1x8x128 .f32 → Prog (TpuEff nD τ sig (Elt F) Λ₀ .tc) α} (v : Vec F S1x8x128 .f32) :
    Blk1 c v ⊢ iprop((Blk1 c v -∗ wp frame (wpE (defs₀ (F := F)) 𝒱₀ (c : Thread nD τ) none) Set.univ (k v) Q)
      -∗ wp frame (wpE (defs₀ (F := F)) 𝒱₀ (c : Thread nD τ) none) Set.univ (.op (.load scr box1.toLoadRect hl) k) Q) := by
  unfold Blk1
  iintro ⟨%f, %hf, H⟩ Hk
  iapply (wp_load 𝒱₀ (c : Thread nD τ) none Set.univ (m := scr) (r := box1.toLoadRect) (by rw [blk1_set]; exact Memref.setOn_subset_of_access_subset (c := (c : Thread nD τ)) (Finset.Subset.refl _))) $$ H
  iintro H
  rw [hf]
  iapply Hk
  iexists f; isplitr; · ipureintro; exact hf
  iexact H

/-- A store to block 0 replaces what it holds. -/
theorem store_blk0 {α : Type} {Q : α → sProp 𝕄} (c : Dev nD) {w : Vec F S1x8x128 .f32} {hx : (scr.access box0).Stores Finset.univ} {hm}
    {k : PUnit → Prog (TpuEff nD τ sig (Elt F) Λ₀ .tc) α} (v : Vec F S1x8x128 .f32) :
    Blk0 c v ⊢ iprop((Blk0 c w -∗ wp frame (wpE (defs₀ (F := F)) 𝒱₀ (c : Thread nD τ) none) Set.univ (k ⟨⟩) Q)
      -∗ wp frame (wpE (defs₀ (F := F)) 𝒱₀ (c : Thread nD τ) none) Set.univ (.op (.store scr box0 w Finset.univ hx hm) k) Q) := by
  unfold Blk0
  iintro ⟨%f, -, H⟩ Hk
  iapply (wp_store 𝒱₀ (c : Thread nD τ) none Set.univ (m := scr) (r := box0) (Mk := Finset.univ) (by rw [blk0_set]; exact Finset.Subset.refl _)) $$ H
  iintro H
  iapply Hk
  iexists _; isplitr; · ipureintro; exact read_stored f w
  iexact H

theorem origin2 : (![0, 0] : Fin 2 → Nat) = fun _ => 0 := funext fun a => by fin_cases a <;> rfl

/-- A load of a whole staging buffer reads its contents: the input's, -/
theorem load_in {α : Type} {Q : α → sProp 𝕄} (c : Dev nD) {hl : (Memref.whole cc0_stg0_0 : Memref sig .tc .vmem S1024x512 .f32).view.LoadsAt (Rect.unit (s := S1024x512) ![0, 0] S1024x512.size inb_S1024x512_S1024x512_0_0).toLoadRect}
    {k : Vec F S1024x512 .f32 → Prog (TpuEff nD τ sig (Elt F) Λ₀ .tc) α} (f : Buf (Elt F) ((c : Thread nD τ).loc cc0_stg0_0)) :
    (((c : Thread nD τ).loc cc0_stg0_0) ↦{fullShare} f : sProp 𝕄)
      ⊢ iprop(((((c : Thread nD τ).loc cc0_stg0_0) ↦{fullShare} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_stg0_0 : Memref sig .tc .vmem S1024x512 .f32) (Rect.unit (s := S1024x512) ![0, 0] S1024x512.size inb_S1024x512_S1024x512_0_0).toLoadRect hl) k) Q) := by
  iintro H Hk
  iapply (wp_load 𝒱₀ (c : Thread nD τ) none Set.univ (m := (Memref.whole cc0_stg0_0 : Memref sig .tc .vmem S1024x512 .f32))
    (r := (Rect.unit (s := S1024x512) ![0, 0] S1024x512.size inb_S1024x512_S1024x512_0_0).toLoadRect) (Finset.subset_univ _)) $$ H
  rw [show View.readAt (Elt F) (Memref.whole cc0_stg0_0 : Memref sig .tc .vmem S1024x512 .f32).view (Rect.unit (s := S1024x512) ![0, 0] S1024x512.size inb_S1024x512_S1024x512_0_0).toLoadRect f = f from
    Memref.readAt_unit_zero (Elt F) cc0_stg0_0 origin2 _ f]
  iexact Hk

/-- and the result's (the value is not used). -/
theorem load_out {α : Type} {Q : α → sProp 𝕄} (c : Dev nD) {hl : (Memref.whole cc0_stg1_0 : Memref sig .tc .vmem S8x128 .f32).view.LoadsAt (Rect.unit (s := S8x128) ![0, 0] S8x128.size inb_S8x128_S8x128_0_0).toLoadRect}
    {k : Vec F S8x128 .f32 → Prog (TpuEff nD τ sig (Elt F) Λ₀ .tc) α} (f : Buf (Elt F) ((c : Thread nD τ).loc cc0_stg1_0)) :
    (((c : Thread nD τ).loc cc0_stg1_0) ↦{fullShare} f : sProp 𝕄)
      ⊢ iprop(((((c : Thread nD τ).loc cc0_stg1_0) ↦{fullShare} f) -∗ wp frame (wpE (defs₀ (F := F)) 𝒱₀ (c : Thread nD τ) none) Set.univ (k f) Q)
        -∗ wp frame (wpE (defs₀ (F := F)) 𝒱₀ (c : Thread nD τ) none) Set.univ
            (.op (.load (Memref.whole cc0_stg1_0 : Memref sig .tc .vmem S8x128 .f32) (Rect.unit (s := S8x128) ![0, 0] S8x128.size inb_S8x128_S8x128_0_0).toLoadRect hl) k) Q) := by
  iintro H Hk
  iapply (wp_load 𝒱₀ (c : Thread nD τ) none Set.univ (m := (Memref.whole cc0_stg1_0 : Memref sig .tc .vmem S8x128 .f32))
    (r := (Rect.unit (s := S8x128) ![0, 0] S8x128.size inb_S8x128_S8x128_0_0).toLoadRect) (Finset.subset_univ _)) $$ H
  rw [show View.readAt (Elt F) (Memref.whole cc0_stg1_0 : Memref sig .tc .vmem S8x128 .f32).view (Rect.unit (s := S8x128) ![0, 0] S8x128.size inb_S8x128_S8x128_0_0).toLoadRect f = f from
    Memref.readAt_unit_zero (Elt F) cc0_stg1_0 origin2 _ f]
  iexact Hk

/-- A store to the whole result staging buffer leaves there what was stored. -/
theorem store_out {α : Type} {Q : α → sProp 𝕄} (c : Dev nD) {w : Vec F S8x128 .f32}
    {hx : ((Memref.whole cc0_stg1_0 : Memref sig .tc .vmem S8x128 .f32).access (Rect.unit (s := S8x128) ![0, 0] S8x128.size inb_S8x128_S8x128_0_0)).Stores Finset.univ} {hm}
    {k : PUnit → Prog (TpuEff nD τ sig (Elt F) Λ₀ .tc) α} (f : Buf (Elt F) ((c : Thread nD τ).loc cc0_stg1_0)) :
    (((c : Thread nD τ).loc cc0_stg1_0) ↦{fullShare} f : sProp 𝕄)
      ⊢ iprop(((((c : Thread nD τ).loc cc0_stg1_0) ↦{fullShare} w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_stg1_0 : Memref sig .tc .vmem S8x128 .f32) (Rect.unit (s := S8x128) ![0, 0] S8x128.size inb_S8x128_S8x128_0_0) w Finset.univ hx hm) k) Q) := by
  iintro H Hk
  iapply (wp_store 𝒱₀ (c : Thread nD τ) none Set.univ (m := (Memref.whole cc0_stg1_0 : Memref sig .tc .vmem S8x128 .f32))
    (r := Rect.unit (s := S8x128) ![0, 0] S8x128.size inb_S8x128_S8x128_0_0) (Mk := Finset.univ) (Finset.subset_univ _)) $$ H
  rw [show ((Memref.whole cc0_stg1_0 : Memref sig .tc .vmem S8x128 .f32).access (Rect.unit (s := S8x128) ![0, 0] S8x128.size inb_S8x128_S8x128_0_0)).write (Elt F) f w Finset.univ = w from
    Memref.write_access_unit_zero_univ (Elt F) cc0_stg1_0 origin2 _ f w]
  iexact Hk

end Access

end Cert.KernelIdeal.Exchange

end
-- ==== Proof.Ideal.Body.lean ====
/- The body of the row mean (instance `KernelIdeal`) on a symbolic device: from the device's block of the input it leaves in
   the result's staging buffer the mean of the device's rows, and it ends with its three semaphores at zero
   and no debt. -/
module

public import proofs.«01_k».proof.Proof.Ideal.Steps
public import proofs.«01_k».proof.Proof.Gen.KernelIdeal.Skeleton

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Gh ℕ

/-- `X c` is the block of the input on device `c`; `part X c` are the sums of its rows, `mean X c` what the body computes
    from them and from the neighbour's. -/
abbrev part (X : Dev nD → Vec F S1024x512 .f32) (c : Dev nD) : Vec F S1x8x128 .f32 := k0_pay2 (X c)
abbrev mean (X : Dev nD → Vec F S1024x512 .f32) (c : Dev nD) : Vec F S8x128 .f32 := k0_pay1 (part X c) (part X (mate c))

variable (X : Dev nD → Vec F S1024x512 .f32) (κ : GSem nD τ sig → ℕ)

/-- The rights a device pays its duties with: the neighbour's barrier and receive semaphore, its own send semaphore. -/
def tokens (c : Dev nD) : sProp 𝕄 :=
  iprop(dutyTok EX (cell .gate (mate c)) 0 () ∗ dutyTok EX (cell .sent c) 0 () ∗ dutyTok EX (cell .got (mate c)) 0 ())

/-- A device ready to run: the invariants, its three cells at their first round, the neighbour's barrier cell open, its
    rights, and the credits for its two waits on a neighbour. -/
def ready (c : Dev nD) : sProp 𝕄 :=
  iprop(Invs (part X) κ ∗ levAts Lv lvl ∗ reached EX (cell .gate (mate c)) 0 ∗ reached EX (cell .sent c) 0 ∗ reached EX (cell .got c) 0
    ∗ atPos EX (cell .gate c) 0 ∅ 0 ∗ atPos EX (cell .sent c) 0 ∅ 0 ∗ atPos EX (cell .got c) 0 ∅ 0 ∗ tokens c
    ∗ cred (tallyAt (cell .gate c) () 1) ∗ cred (tallyAt (cell .got c) () blkCredit))

/-- The exchange buffer, whatever it holds. -/
def scratch (c : Dev nD) : sProp 𝕄 :=
  iprop(∃ f : Buf (Elt F) ((c : Thread nD τ).loc cc0_scratch0), ((c : Thread nD τ).loc cc0_scratch0) ↦{fullShare} f)

/-- The three counters at zero, in the device's hand. -/
def rest (c : Dev nD) : sProp 𝕄 := iprop(semVal (cell .gate c) 0 ∗ semVal (cell .sent c) 0 ∗ semVal (cell .got c) 0)

/-- The call of the body, on the buffers the pipeline gives it. -/
abbrev call : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

/-- THE BODY. -/
theorem body_run (c : Dev nD) (g : Buf (Elt F) ((c : Thread nD τ).loc cc0_stg1_0)) (W : Waits sig Unit) (Q : PUnit → sProp 𝕄) :
    iprop(ready X κ c ∗ scratch c ∗ owes (c : Thread nD τ) (debt c) W
        ∗ (((c : Thread nD τ).loc cc0_stg0_0) ↦{fullShare} X c) ∗ (((c : Thread nD τ).loc cc0_stg1_0) ↦{fullShare} g))
      ⊢ iprop((rest c ∗ scratch c ∗ (∃ W', owes (c : Thread nD τ) (0 : CellTallies nD τ sig Unit) W')
            ∗ (((c : Thread nD τ).loc cc0_stg0_0) ↦{fullShare} X c) ∗ (((c : Thread nD τ).loc cc0_stg1_0) ↦{fullShare} mean X c) -∗ Q ⟨⟩)
          -∗ wp frame (wpE (defs₀ (F := F)) 𝒱₀ (c : Thread nD τ) none) Set.univ call Q) := by
  unfold call
  rw [cc0_body_eq_skeleton]
  unfold cc0_body_skel
  rw [k0_part1_eq_skeleton]
  unfold k0_part1_skel
  simp only [Prog.lift, Prog.bind_op, Prog.bind_ret, Prog.pure_eq_ret, semSignalWord, semWaitWord, wp_deviceId]
  unfold ready tokens scratch
  iintro ⟨⟨#HI, #Hlev, #Hrg, #Hrs, #Hrr, HaG, HaS, HaR, ⟨HtG, HtS, HtR⟩, HcG, HcR⟩, Hscr, HO, Hx, Hy⟩ HQ
  ihave Hb := (split_scr c) $$ Hscr
  icases Hb with ⟨⟨%v0, H0⟩, ⟨%v1, H1⟩⟩
  iapply (signal_step (part X) κ c _ (dev1_mate c) _ (by decide) W v1) $$ [HO HtG H1]
  · isplitr; · iexact HI
    isplitl [HO]; · iexact HO
    isplitl [HtG]; · iexact HtG
    isplitr; · iexact Hrg
    isplitr; · iexact Hrr
    iexact H1
  iintro HO
  iapply (load_in c (X c)) $$ Hx
  iintro Hx
  iapply (load_blk0 c v0) $$ H0
  iintro H0
  iapply (store_blk0 c v0) $$ H0
  iintro H0
  iapply (await_step (part X) κ .gate c (wpE_semWait_eq 𝒱₀ (c : Thread nD τ) none Set.univ) (by decide) _ W) $$ [HcG HO HaG]
  · isplitr; · iexact HI
    isplitl [HcG]; · iexact HcG
    isplitl [HO]; · iexact HO
    isplitr; · iapply (gate_may_wait c); iexact Hlev
    iexact HaG
  unfold pay
  iintro ⟨⟨%W1, HO⟩, HaG, ⟨%w1, H1⟩, #Hgot⟩
  iapply (copy_step (part X) κ c _ (dev2_mate c) W1 w1) $$ [H0 H1 HO HtS HtR]
  · isplitr; · iexact HI
    isplitl [H0]; · iexact H0
    isplitl [H1]; · iexact H1
    isplitl [HO]; · iexact HO
    isplitl [HtS]; · iexact HtS
    isplitr; · iexact Hrs
    isplitl [HtR]; · iexact HtR
    iexact Hgot
  iintro ⟨HcS, HO⟩
  iapply (await_step (part X) κ .sent c (w := .waitDma2 cc0_scratch1.sem blk1 blk0 ((View.wordExact_bits rfl).reshape _ _) ((View.wordExact_bits rfl).reshape _ _))
    (wpE_waitDma2_eq 𝒱₀ (c : Thread nD τ) none Set.univ) rfl 0 W1) $$ [HcS HO HaS]
  · isplitr; · iexact HI
    isplitl [HcS]; · iexact HcS
    isplitl [HO]; · iexact HO
    isplitr; · rw [MayWait_zero]; iempintro
    iexact HaS
  unfold pay
  iintro ⟨⟨%W2, HO⟩, HaS, H0⟩
  iapply (await_step (part X) κ .got c (w := .waitDma2 cc0_scratch2.sem blk0 blk1 ((View.wordExact_bits rfl).reshape _ _) ((View.wordExact_bits rfl).reshape _ _))
    (wpE_waitDma2_eq 𝒱₀ (c : Thread nD τ) none Set.univ) rfl 0 W2) $$ [HcR HO HaR]
  · isplitr; · iexact HI
    isplitl [HcR]; · iexact HcR
    isplitl [HO]; · iexact HO
    isplitr; · rw [MayWait_zero]; iempintro
    iexact HaR
  unfold pay
  iintro ⟨⟨%W3, HO⟩, HaR, H1⟩
  imod (close_step (part X) κ .gate c) $$ [HaG] with HzG
  · isplitr; · iexact HI
    iexact HaG
  imod (close_step (part X) κ .sent c) $$ [HaS] with HzS
  · isplitr; · iexact HI
    iexact HaS
  imod (close_step (part X) κ .got c) $$ [HaR] with HzR
  · isplitr; · iexact HI
    iexact HaR
  iapply (load_blk0 c (part X c)) $$ H0
  iintro H0
  iapply (load_blk1 c (part X (mate c))) $$ H1
  iintro H1
  iapply (load_out c g) $$ Hy
  iintro Hy
  iapply (store_out c g) $$ Hy
  iintro Hy
  rw [wp_ret]; imodintro
  iapply HQ
  isplitl [HzG HzS HzR]
  · unfold rest
    isplitl [HzG]; · iexact HzG
    isplitl [HzS] <;> iassumption
  isplitl [H0 H1]
  · iapply (join_scr c (part X c) (part X (mate c)))
    isplitl [H0] <;> iassumption
  isplitl [HO]; · iexists W3; iexact HO
  isplitl [Hx] <;> iassumption

end Cert.KernelIdeal.Exchange

end
-- ==== Proof.Ideal.Region.lean ====
/- The pallas call of the row mean (instance `KernelIdeal`) as a region of @main: what each device's two windows hold, the
   body's obligation at the one point of the grid, and the call's record, entered with the two cells of the copy
   still closed and left with the result in `main_v1`. -/
module

public import proofs.«01_k».proof.Proof.Ideal.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.Value

@[expose] public section

noncomputable section

namespace Cert.KernelIdeal.Exchange

open Cert.KernelIdeal Cert.KernelIdeal.Gen

open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Gh ℕ

variable (m : (ℓ : Loc nD τ sig) → Buf (Elt F) ℓ)

/-! ## Contents -/

/-- The block of the input on a device, as the launch finds it. -/
abbrev X (c : Dev nD) : Vec F S1024x512 .f32 := m ((c : Thread nD τ).loc main_arg0)

/-- A window on a whole array reads the array, -/
theorem read_in (t : Fin grid0.N) (f : main_arg0.ty.Contents (Elt F)) : (win0_0.blk t).view.read (Elt F) f = f :=
  funext fun i => (View.read_apply _ _).trans (congrArg f (funext fun a => Fin.ext (Pipeline.Window.rect_emb_val_of_index_zero win0_0 t a rfl i)))
theorem read_out (t : Fin grid0.N) (f : main_v1.ty.Contents (Elt F)) : (win0_1.blk t).view.read (Elt F) f = f :=
  funext fun i => (View.read_apply _ _).trans (congrArg f (funext fun a => Fin.ext (Pipeline.Window.rect_emb_val_of_index_zero win0_1 t a rfl i)))
/-- and every index of the array is in it. -/
theorem mem_out (t : Fin grid0.N) (i : main_v1.ty.Idx) : i ∈ (win0_1.blk t).view.set := by
  have h : (win0_1.blk t).view.emb i = i := funext fun a => Fin.ext (Pipeline.Window.rect_emb_val_of_index_zero win0_1 t a rfl i)
  exact h ▸ (win0_1.blk t).view.emb_mem_set i

/-- What a device keeps for the call from the launch: its ghost state, the two cells of the copy not yet open. -/
def kept (c : Dev nD) : sProp 𝕄 :=
  iprop(∃ κ, Invs (part (X m)) κ ∗ reached EX (cell .gate (mate c)) 0 ∗ atPos EX (cell .gate c) 0 ∅ 0
    ∗ openTok EX (cell .sent c) ∗ openTok EX (cell .got c) ∗ tokens c
    ∗ cred (tallyAt (cell .gate c) () 1) ∗ cred (tallyAt (cell .got c) () blkCredit))
/-- The same with the two cells open. -/
def opened (c : Dev nD) : sProp 𝕄 := iprop(∃ κ, ready (X m) κ c)

/-- The proof data of the call on device `c`. -/
def dat (c : Dev nD) : Dat τ (Elt F) Unit ℕ Gh ℕ cfg0 c where
  A w := m ((cfg0.win w).arr.view.loc (c : Thread nD τ))
  after w _ := match w with
    | ⟨0, _⟩ => X m c
    | ⟨1, _⟩ => mean (X m) c
  Φ t := if t.val = 0 then iprop(opened m c ∗ scratch c ∗ ∃ r, prngReg c r) else iprop(rest c ∗ scratch c ∗ ∃ r, prngReg c r)
  q _ := fullShare
  owed t := if t.val = 0 then debt c else 0

abbrev adm : (p : Fin 1) → (pcfgs (F := F) p).Adm := fun p => (cfgs p).toPCfg_adm
def dats : (p : Fin 1) → (c : Dev nD) → Dat τ (Elt F) Unit ℕ Gh ℕ (Pipeline.pin (pcfgs (F := F)) adm p) c
  | 0 => dat m

theorem owed_first (c : Dev nD) : (dat m c).owed (0 : Fin (cfg0.N + 1)) = debt c := by
  show (if ((0 : Fin (cfg0.N + 1)).val = 0) then debt c else 0) = debt c
  exact if_pos rfl
theorem owed_last (c : Dev nD) : (dat m c).owed (Fin.last cfg0.N) = 0 := by
  show (if (Fin.last cfg0.N).val = 0 then debt c else 0) = 0
  exact if_neg (by rw [Fin.val_last, show cfg0.N = 1 from N_0]; decide)

/-! ## The body's obligation -/

/-- What a device owes at a point, opened and closed. -/
theorem owes_open (c : Dev nD) (t : Fin (cfg0.N + 1)) :
    ((dat m c).owesAt () t : sProp 𝕄) ⊢ iprop(∃ W, owes (c : Thread nD τ) ((dat m c).owed t) W) := by
  unfold Dat.owesAt Pipeline.owesWithin
  iintro ⟨%W, -, HO⟩; iexists W; iexact HO
theorem owes_close (c : Dev nD) (t : Fin (cfg0.N + 1)) (W : Waits sig Unit) :
    (owes (c : Thread nD τ) ((dat m c).owed t) W : sProp 𝕄) ⊢ (dat m c).owesAt () t := by
  unfold Dat.owesAt Pipeline.owesWithin
  iintro HO; iexists W
  isplitr; · ipureintro; exact fun _ _ => Or.inl trivial
  iexact HO

/-- Owning a whole staging buffer at contents `f`. -/
theorem owns_buf (c : Dev nD) (b : Ref sig .tc) (f : b.ty.Contents (Elt F)) :
    (owns (Ix := Unit) (Name := ℕ) (U := Gh) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns
  simp only [Memref.view_whole, View.read_whole, View.set_whole]

/-- What the input's staging buffer holds when the body is called. -/
theorem before_in (c : Dev nD) (t : Fin cfg0.N) (d) : (dat m c).before (0 : Fin 2) t d = X m c := by
  unfold Dat.before
  rw [if_pos (fetch0_0 t)]
  exact read_in (F := F) t _

theorem body_obligation (c : Dev nD) : BodyObligation (dat m c) (defs₀ (F := F)) 𝒱₀ () Set.univ := fun t => by
  rw [fin_N0 t]
  rw [bigSep_W0, bigSep_W0]
  rw [show (dat m c).Φ t0_0.castSucc = iprop(opened m c ∗ scratch c ∗ ∃ r, prngReg c r) from rfl,
    show (dat m c).Φ t0_0.succ = iprop(rest c ∗ scratch c ∗ ∃ r, prngReg c r) from rfl]
  iintro ⟨⟨Ho, Hs, Hp⟩, HO, ⟨%d0, Hx⟩, ⟨%d1, Hy⟩⟩
  ihave Hx := (Entails.of_eq (owns_buf c cc0_stg0_0 ((dat m c).before (0 : Fin 2) t0_0 d0))) $$ Hx
  ihave Hy := (Entails.of_eq (owns_buf c cc0_stg1_0 ((dat m c).before (1 : Fin 2) t0_0 d1))) $$ Hy
  ihave HO := (owes_open m c t0_0.castSucc) $$ HO
  icases HO with ⟨%W, HO⟩
  icases Hx with ⟨%f, %hf, Hx⟩
  icases Hy with ⟨%g, -, Hy⟩
  rw [before_in] at hf
  subst hf
  unfold opened
  icases Ho with ⟨%κ, Hr⟩
  iapply (body_run (X m) κ c g W) $$ [Hr Hs HO Hx Hy]
  · isplitl [Hr]; · iexact Hr
    isplitl [Hs]; · iexact Hs
    isplitl [HO]; · iexact HO
    isplitl [Hx] <;> iassumption
  iintro ⟨Hz, Hs, ⟨%W', HO⟩, Hx, Hy⟩
  isplitl [Hz Hs Hp]
  · isplitl [Hz]; · iexact Hz
    isplitl [Hs] <;> iassumption
  isplitl [HO]; · iapply (owes_close m c t0_0.succ W'); iexact HO
  isplitl [Hx]
  · iapply (Entails.of_eq (owns_buf c cc0_stg0_0 (X m c)).symm)
    iexists _; isplitr; · (ipureintro; rfl)
    iexact Hx
  iapply (Entails.of_eq (owns_buf c cc0_stg1_0 (mean (X m) c)).symm)
  iexists _; isplitr; · (ipureintro; rfl)
  iexact Hy

/-! ## The region -/

/-- Memory at the launch, and after the call. -/
abbrev V₀ (c : Dev nD) : Valuation τ sig (Elt F) := fun b => m (c, b)
abbrev V₁ (c : Dev nD) : Valuation τ sig (Elt F) := Function.update (V₀ m c) (Proc.devRef .tc main_v1) (mean (X m) c)

/-- The two semaphores of the copy, which are the call's own. -/
abbrev copySem : Fin 2 → SemLoc sig := fun | 0 => Role.sent.sem | 1 => Role.got.sem

theorem copySems_eq (c : Dev nD) : (Pipeline.ownSems0 copySem c : sProp 𝕄) = iprop(semVal (cell .sent c) 0 ∗ semVal (cell .got c) 0) :=
  BI.bigSep_fin_two (fun k : Fin 2 => (semVal ((c : Thread nD τ), copySem k) 0 : sProp 𝕄))

/-- Entering, a device opens its two cells of the copy. -/
theorem open_cells (c : Dev nD) : iprop(kept m c ∗ Pipeline.ownSems0 copySem c ∗ levAts Lv lvl) ⊢ (|={Set.univ}=> opened m c : sProp 𝕄) := by
  rw [copySems_eq]
  unfold kept opened ready
  iintro ⟨⟨%κ, #HI, #Hrg, HaG, HoS, HoR, Ht, HcG, HcR⟩, ⟨HvS, HvR⟩, #Hlev⟩
  imod (Rounds.cell_open EX (sched (part (X m))) (g := cell .sent c) (Set.mem_univ (κ (cell .sent c)))) $$ [HoS HvS] with ⟨HaS, #HrS⟩
  · isplitr; · iapply (Invs_at (part (X m)) κ .sent c); iexact HI
    isplitl [HoS] <;> iassumption
  imod (Rounds.cell_open EX (sched (part (X m))) (g := cell .got c) (Set.mem_univ (κ (cell .got c)))) $$ [HoR HvR] with ⟨HaR, #HrR⟩
  · isplitr; · iapply (Invs_at (part (X m)) κ .got c); iexact HI
    isplitl [HoR] <;> iassumption
  imodintro
  iexists κ
  isplitr; · iexact HI
  isplitr; · iexact Hlev
  isplitr; · iexact Hrg
  isplitr; · iexact HrS
  isplitr; · iexact HrR
  isplitl [HaG]; · iexact HaG
  isplitl [HaS]; · iexact HaS
  isplitl [HaR]; · iexact HaR
  isplitl [Ht]; · iexact Ht
  isplitl [HcG] <;> iassumption

theorem held_none (c : Dev nD) (W : Valuation τ sig (Elt F)) : (StableHlo.held (c.tc : Thread nD τ) ∅ W : sProp 𝕄) = BI.emp := by
  unfold StableHlo.held; exact BI.bigSep_empty

theorem enter (c : Dev nD) :
    iprop(Pipeline.scopedRest (Pipeline.pin (pcfgs (F := F)) adm 0).spec c ∗ (∃ r, prngReg c r) ∗ StableHlo.held (c.tc : Thread nD τ) ∅ (V₀ m c) ∗ opened m c)
      ⊢ (dats m 0 c).Φ 0 := by
  rw [show (dats m 0 c).Φ 0 = iprop(opened m c ∗ scratch c ∗ ∃ r, prngReg c r) from rfl,
    show (Pipeline.scopedRest (Pipeline.pin (pcfgs (F := F)) adm 0).spec c : sProp 𝕄) = scratch c from scopedRest0_eq c]
  iintro ⟨Hs, Hp, -, Ho⟩
  isplitl [Ho]; · iexact Ho
  isplitl [Hs] <;> iassumption

theorem leave (c : Dev nD) :
    (dats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ (V₁ m c)
          ∗ Pipeline.ownSems0 copySem c ∗ semVal (cell .gate c) 0) := by
  rw [show (dats m 0 c).Φ (Fin.last _) = iprop(rest c ∗ scratch c ∗ ∃ r, prngReg c r) from rfl,
    show (Pipeline.scopedRest (Pipeline.pin (pcfgs (F := F)) adm 0).spec c : sProp 𝕄) = scratch c from scopedRest0_eq c,
    copySems_eq, held_none]
  unfold rest
  iintro ⟨⟨HzG, HzS, HzR⟩, Hs, Hp⟩
  isplitl [Hs]; · iexact Hs
  isplitl [Hp]; · iexact Hp
  isplitr; · iempintro
  isplitl [HzS HzR]; · isplitl [HzS] <;> iassumption
  iexact HzG

theorem facts : Pipeline.PLaunchFacts (nD := nD) (τ := τ) (pcfgs (F := F)) 0 := launch0.toP

/-- The input is left as it was; -/
theorem in_after (c : Dev nD) : (dat m c).arrAt (0 : Fin 2) cfg0.N = V₁ m c (Proc.devRef .tc main_arg0) := by
  rw [show V₁ m c (Proc.devRef .tc main_arg0) = V₀ m c (Proc.devRef .tc main_arg0) from Function.update_of_ne (by decide) _ _]
  exact (dat m c).arrAt_in (0 : Fin 2) rfl _
/-- the result holds what the body left in its staging buffer. -/
theorem out_after (c : Dev nD) : (dat m c).arrAt (1 : Fin 2) cfg0.N = V₁ m c (Proc.devRef .tc main_v1) := by
  rw [show V₁ m c (Proc.devRef .tc main_v1) = mean (X m) c from Function.update_self _ _ _]
  refine (dat m c).arrAt_eq_of_cover (1 : Fin 2) (mean (X m) c) (fun t _ => ?_) fun i => ⟨t0_0, flush0_1 t0_0, mem_out t0_0 i⟩
  refine Eq.trans ?_ (read_out t (mean (X m) c)).symm
  rfl

/-- Staging is waited for below everything a device owes. -/
theorem debt_cut (c : Dev nD) (t : Fin (cfg0.N + 1)) (g : GSem nD τ sig) (u : Unit) (h : 0 < (dat m c).owed t g u) : u ∈ Lv g ∧ 0 < lvl g u := by
  have e : (dat m c).owed t = if t.val = 0 then debt c else 0 := rfl
  rw [e] at h
  split at h
  · rcases debt_pos h with rfl | rfl
    · exact ⟨mem_Lv _ _ _, by rw [lvl_cell]; decide⟩
    · exact ⟨mem_Lv _ _ _, by rw [lvl_cell]; decide⟩
  · exact absurd h (Nat.lt_irrefl 0)

theorem stage_level : ∀ (w : Fin 2) (s : Fin (spec0 w).nbuf), roleOf (.dma ((spec0 w).sem s)) = none := by decide

set_option backward.isDefEq.respectTransparency.types false in
/-- THE CALL. -/
def region : Pipeline.RegionSeg (pcfgs (F := F)) adm (dats m) () defs₀ 𝒱₀ Lv lvl 0 :=
  Pipeline.RegionSeg.ofTalk (pcfgs (F := F)) adm (dats m) () defs₀ 𝒱₀ Lv lvl 0 copySem (by decide : Pipeline.OwnSemFacts spec0 copySem)
    ∅ {Proc.devRef .tc main_v2} (Finset.empty_subset _) facts rfl (fun c => (body_obligation m c).loose)
    (fun _ => 0) debt (fun c => (owed_first m c).trans (zero_add _).symm) (owed_last m) (fun _ => rfl)
    (fun c w => by unfold Dat.share; split <;> rfl)
    (V₀ m) (V₁ m)
    (fun c b hb => by
      rw [Finset.sdiff_empty, Finset.mem_singleton] at hb
      subst hb; exact Function.update_of_ne (by decide) _ _)
    (kept m) (fun c => semVal (cell .gate c) 0) (opened m) (fun c => semVal (cell .gate c) 0)
    (open_cells m) (enter m) (leave m) (fun c => by iintro H; imodintro; iexact H)
    (fun _ => 0)
    ⟨fun c w s => mem_Lv c _ (), fun c w s => le_of_eq (by unfold lvl; rw [show roleOf _ = none from stage_level w s]), debt_cut m⟩
    (fun _ => iprop(emp))
    (fun c w => by fin_cases w <;> rfl)
    (fun c w => by
      fin_cases w
      · exact in_after m c
      · exact out_after m c)

end Cert.KernelIdeal.Exchange

end
-- ==== Proof.Ideal.Launch.lean ====
/- The launch of the row mean (instance `KernelIdeal`): the reshape that follows the call, what every device is dealt
   at the start, and the run of the whole program from any memory. -/
module

public import proofs.«01_k».proof.Proof.Ideal.Region

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Gh ℕ

variable (m : (ℓ : Loc nD τ sig) → Buf (Elt F) ℓ) (ρ : Dev nD → PrngReg)

/-! ## The buffers of @main -/

/-- The buffers @main's values live in. -/
abbrev bufs : Finset (DevRef τ sig) := {Proc.devRef .tc main_arg0, Proc.devRef .tc main_v1, Proc.devRef .tc main_v2}

section Held
variable (c : Dev nD) (W : Valuation τ sig (Elt F))

/-- A buffer of device `c` held at what `W` gives it. -/
abbrev at_ (b : Ref sig .tc) : sProp 𝕄 := ((c : Thread nD τ).loc b) ↦{fullShare} (W (Proc.devRef .tc b))

/-- Holding all of them, the two the call's windows are on, or the reshape's result. -/
theorem held_bufs : (StableHlo.held (c.tc : Thread nD τ) bufs W : sProp 𝕄)
    = iprop(at_ c W main_arg0 ∗ at_ c W main_v1 ∗ at_ c W main_v2) := by
  unfold StableHlo.held
  rw [bigSep_eq_bigSepL_of_eq [Proc.devRef .tc main_arg0, Proc.devRef .tc main_v1, Proc.devRef .tc main_v2] (by decide) (by decide)]
  rfl
theorem held_arrs : (StableHlo.held (c.tc : Thread nD τ) (Pipeline.arrRefs (τ := τ) (pcfgs (F := F) 0).spec) W : sProp 𝕄)
    = iprop(at_ c W main_arg0 ∗ at_ c W main_v1) := by
  unfold StableHlo.held
  rw [show Pipeline.arrRefs (τ := τ) (pcfgs (F := F) 0).spec = Pipeline.arrRefs (τ := τ) spec0 from rfl,
    bigSep_eq_bigSepL_of_eq [Proc.devRef .tc main_arg0, Proc.devRef .tc main_v1] (by decide) (by decide)]
  rfl
theorem held_result : (StableHlo.held (c.tc : Thread nD τ) {Proc.devRef .tc main_v2} W : sProp 𝕄) = at_ c W main_v2 := by
  unfold StableHlo.held
  rw [bigSep_singleton]

/-- All of them together are the two parts. -/
theorem held_parts : (StableHlo.held (c.tc : Thread nD τ) bufs W : sProp 𝕄)
    ⊣⊢ iprop(StableHlo.held (c.tc : Thread nD τ) (Pipeline.arrRefs (τ := τ) (pcfgs (F := F) 0).spec) W
        ∗ StableHlo.held (c.tc : Thread nD τ) {Proc.devRef .tc main_v2} W) := by
  rw [held_bufs, held_arrs, held_result]
  exact ⟨by iintro ⟨H0, H1, H2⟩; isplitl [H0 H1]; · (isplitl [H0] <;> iassumption)
            iexact H2,
    by iintro ⟨⟨H0, H1⟩, H2⟩; isplitl [H0]; · iexact H0
       isplitl [H1] <;> iassumption⟩

end Held

/-- What the launch hands a device of unscoped buffers and semaphores. -/
theorem bufs_at_launch (c : Dev nD) :
    (unscopedBufs c (fun b => m ((c : Thread nD τ).loc b)) : sProp 𝕄) = StableHlo.held (c.tc : Thread nD τ) bufs (V₀ m c) := by
  rw [held_bufs]
  unfold unscopedBufs
  rw [bigSep_eq_bigSepL_of_eq [main_arg0, main_v1, main_v2] (by decide) (by decide)]
  rfl
theorem sems_at_launch (c : Dev nD) : (unscopedSems0 c : sProp 𝕄) = semVal (cell .gate c) 0 := by
  unfold unscopedSems0
  rw [show (Finset.univ.filter fun sm : SemLoc sig => ¬ sm.isScoped .tc) = {Role.gate.sem} from by decide, bigSep_singleton]

/-! ## The reshape after the call -/

/-- Memory at the end. -/
abbrev V₂ (c : Dev nD) : Valuation τ sig (Elt F) := StableHlo.after hostOps1 (V₁ m c)

/-- What the program returns on a device: its means in one column. -/
abbrev result (c : Dev nD) : Vec F S1024x1 .f32 := fun i => shapeCast S1024x1 (mean (X m) c) shapeCasts_S8x128_S1024x1 i

theorem V₂_in (c : Dev nD) : V₂ m c (Proc.devRef .tc main_arg0) = X m c := by
  show StableHlo.after hostOps1 (V₁ m c) (Proc.devRef .tc main_arg0) = _
  rw [StableHlo.after_cons, StableHlo.after_nil, StableHlo.reshape_result_ne _ _ _ _ _ _ _ (by decide)]
  exact Function.update_of_ne (by decide) _ _
theorem V₂_out (c : Dev nD) : V₂ m c (Proc.devRef .tc main_v2) = result m c := by
  show StableHlo.after hostOps1 (V₁ m c) (Proc.devRef .tc main_v2) = _
  rw [StableHlo.after_cons, StableHlo.after_nil, StableHlo.reshape_result,
    show V₁ m c (Proc.devRef .tc main_v1) = mean (X m) c from Function.update_self _ _ _]
  rfl

/-- What a device carries past the reshape. -/
abbrev carried (c : Dev nD) : sProp 𝕄 :=
  iprop(semVal (cell .gate c) 0 ∗ ∃ W, owes (c : Thread nD τ) (0 : CellTallies nD τ sig Unit) W)

theorem hostOps1_bufs (op : HloOp τ sig (Elt F)) (h : op ∈ (hostOps1 : List (HloOp τ sig (Elt F)))) : op.bufs ⊆ bufs := by
  rw [List.mem_singleton.mp h]
  show ({Proc.devRef .tc main_v1, Proc.devRef .tc main_v2} : Finset (DevRef τ sig)) ⊆ bufs
  decide

/-- The reshape as a segment of @main. -/
def tail : Pipeline.HostSeg (Ix := Unit) (Name := ℕ) (U := Gh) (Lvl := ℕ) (pcfgs (F := F)) defs₀ 𝒱₀ Lv lvl :=
  Pipeline.HostSeg.ofOps _ _ _ _ _ bufs hostOps1 hostOps1_bufs (List.forall_iff_forall_mem.mp hostOps1_fresh) (V₁ m) carried

/-- @main: the call, then the reshape. -/
abbrev segs : List (Pipeline.Seg (pcfgs (F := F)) adm (dats m) () defs₀ 𝒱₀ Lv lvl) := [.region (region m), .host (tail m)]

/-! ## What a device starts and ends with -/

/-- Before the call, -/
abbrev start (c : Dev nD) : sProp 𝕄 :=
  iprop(StableHlo.held (c.tc : Thread nD τ) bufs (V₀ m c) ∗ kept m c ∗ (∃ r, prngReg c r)
    ∗ ∃ W, owes (c : Thread nD τ) (debt c) W)
/-- and after the reshape. -/
abbrev finish (c : Dev nD) : sProp 𝕄 := iprop(StableHlo.held (c.tc : Thread nD τ) bufs (V₂ m c) ∗ semVal (cell .gate c) 0)

set_option backward.isDefEq.respectTransparency.types false in
theorem start_region (c : Dev nD) : start m c ⊢ (region m).pre c := by
  show _ ⊢ iprop(StableHlo.held (c.tc : Thread nD τ) (Pipeline.arrRefs (τ := τ) (pcfgs (F := F) 0).spec) (V₀ m c) ∗ (∃ r, prngReg c r)
    ∗ (StableHlo.held (c.tc : Thread nD τ) {Proc.devRef .tc main_v2} (V₀ m c) ∗ emp) ∗ kept m c
    ∗ ∃ Wd, owes (c : Thread nD τ) (0 + debt c) Wd)
  rw [zero_add]
  iintro ⟨Hh, Hk, Hp, HO⟩
  ihave Hh := (held_parts c (V₀ m c)).1 $$ Hh
  icases Hh with ⟨Ha, Hr⟩
  isplitl [Ha]; · iexact Ha
  isplitl [Hp]; · iexact Hp
  isplitl [Hr]
  · isplitl [Hr]; · iexact Hr
    iempintro
  isplitl [Hk] <;> iassumption

set_option backward.isDefEq.respectTransparency.types false in
theorem region_tail (c : Dev nD) : (region m).post c ⊢ (tail m).pre c := by
  show iprop(StableHlo.held (c.tc : Thread nD τ) (Pipeline.arrRefs (τ := τ) (pcfgs (F := F) 0).spec) (V₁ m c) ∗ (∃ r, prngReg c r)
    ∗ (StableHlo.held (c.tc : Thread nD τ) {Proc.devRef .tc main_v2} (V₁ m c) ∗ emp) ∗ semVal (cell .gate c) 0
    ∗ ∃ Wd, owes (c : Thread nD τ) (0 : CellTallies nD τ sig Unit) Wd) ⊢ iprop(StableHlo.held (c.tc : Thread nD τ) bufs (V₁ m c) ∗ carried c)
  iintro ⟨Ha, -, ⟨Hr, -⟩, Hz, HO⟩
  isplitl [Ha Hr]
  · iapply (held_parts c (V₁ m c)).2
    isplitl [Ha] <;> iassumption
  isplitl [Hz] <;> iassumption

/-! ## The cells at the launch -/

/-- The cells of one role on every device. -/
def cellOn (k : Role) : Dev nD ↪ GSem nD τ sig := ⟨cell k, fun _ _ h => congrArg (fun g : GSem nD τ sig => g.1.1) h⟩
abbrev cellsOf (k : Role) : Finset (GSem nD τ sig) := Finset.univ.map (cellOn k)

theorem cellsOf_disjoint {k k' : Role} (h : k ≠ k') : Disjoint (cellsOf k) (cellsOf k') := by
  rw [Finset.disjoint_left]
  intro g h₁ h₂
  obtain ⟨c, -, rfl⟩ := Finset.mem_map.mp h₁
  obtain ⟨d, -, e⟩ := Finset.mem_map.mp h₂
  exact h (sem_inj (congrArg Prod.snd e)).symm

/-- The barrier cells, whose counters are there from the start; and the cells of the copies, whose counters come with the call. -/
abbrev live : Finset (GSem nD τ sig) := cellsOf .gate
abbrev closed : Finset (GSem nD τ sig) := cellsOf .sent ∪ cellsOf .got
theorem live_closed : Disjoint live closed :=
  Finset.disjoint_union_right.mpr ⟨cellsOf_disjoint (by decide), cellsOf_disjoint (by decide)⟩
theorem sent_got : Disjoint (cellsOf .sent) (cellsOf .got) := cellsOf_disjoint (by decide)

/-- One token for the one duty of every cell. -/
def duties : Finset (GSem nD τ sig × ℕ × Unit) :=
  Finset.univ.map ⟨fun kc : Role × Dev nD => (cell kc.1 kc.2, 0, ()), fun a b h => Prod.ext
    (sem_inj (congrArg (fun t : GSem nD τ sig × ℕ × Unit => t.1.2) h)) (congrArg (fun t : GSem nD τ sig × ℕ × Unit => t.1.1.1) h)⟩

/-- A conjunction over roles and devices, role by role, -/
theorem by_role (Φ : Role × Dev nD → sProp 𝕄) : bigSep Finset.univ Φ
    = iprop((bigSep Finset.univ fun c => Φ (.gate, c)) ∗ (bigSep Finset.univ fun c => Φ (.sent, c)) ∗ (bigSep Finset.univ fun c => Φ (.got, c))) := by
  rw [bigSep_univ_prod, bigSep_univ_eq_bigSepL [Role.gate, Role.sent, Role.got] (by decide) (by decide)]
  rfl
/-- and one over the cells of a role, device by device. -/
theorem by_device (k : Role) (Φ : GSem nD τ sig → sProp 𝕄) : bigSep (cellsOf k) Φ = bigSep Finset.univ fun c : Dev nD => Φ (cell k c) :=
  bigSep_map (s := Finset.univ) (cellOn k)

/-- The invariants of all cells, under the names `κ`. -/
theorem invs_intro (κ : GSem nD τ sig → ℕ) :
    bigSep (live ∪ closed) (fun g => cellInv EX (sched (part (X m))) (κ g) g) = (Invs (part (X m)) κ : sProp 𝕄) := by
  unfold Invs
  rw [by_role, BI.bigSep_union live_closed, BI.bigSep_union sent_got, by_device, by_device, by_device]
  rfl

/-- The tokens, each handed to the device that pays. -/
theorem tokens_intro : bigSep duties (fun x => dutyTok EX x.1 x.2.1 x.2.2) = (bigSep Finset.univ tokens : sProp 𝕄) := by
  unfold duties tokens
  rw [bigSep_map, bigSep_sep', bigSep_sep']
  have hg := bigSep_univ_equiv mates (fun c : Dev nD => (dutyTok EX (cell .gate c) 0 () : sProp 𝕄))
  have hr := bigSep_univ_equiv mates (fun c : Dev nD => (dutyTok EX (cell .got c) 0 () : sProp 𝕄))
  exact (by_role _).trans (congrArg₂ _ hg (congrArg₂ _ rfl hr))

/-- That the neighbours' barrier cells are in their first round. -/
theorem reached_intro : bigSep live (fun g => reached EX g 0) = (bigSep Finset.univ fun c => reached EX (cell .gate (mate c)) 0 : sProp 𝕄) := by
  rw [by_device, bigSep_univ_equiv mates (fun c : Dev nD => (reached EX (cell .gate c) 0 : sProp 𝕄))]
  rfl

/-- The rights to open the cells of the copies. -/
theorem opens_intro : bigSep closed (fun g => openTok EX g)
    = (iprop((bigSep Finset.univ fun c => openTok EX (cell .sent c)) ∗ bigSep Finset.univ fun c => openTok EX (cell .got c)) : sProp 𝕄) := by
  rw [BI.bigSep_union sent_got, by_device, by_device]
  rfl

/-- The ghost state at the launch: the pipeline's, and the cells' with their tokens. -/
def u₀ : Gh :=
  (initOf (Pipeline.cells (Pipeline.pin (pcfgs (F := F)) adm) cellOf_inj) (Pipeline.launchToks (Pipeline.pin (pcfgs (F := F)) adm) cellOf_inj),
    launchOf live closed duties)

/-- The cells' part, left with the first device. -/
def deal (c : Dev nD) : sProp 𝕄 := if c = 0 then BI.own (EX (launchOf live closed duties)) else iprop(emp)
theorem deal_all : bigSep Finset.univ deal = (BI.own (EX (launchOf live closed duties)) : sProp 𝕄) := by
  rw [bigSep_eq_bigSepL_of_eq [(0 : Dev nD), 1, 2, 3] (by decide) (by decide)]
  show iprop(deal 0 ∗ deal 1 ∗ deal 2 ∗ deal 3) = _
  rw [show (deal 0 : sProp 𝕄) = BI.own (EX (launchOf live closed duties)) from if_pos rfl, show (deal 1 : sProp 𝕄) = iprop(emp) from if_neg (by decide),
    show (deal 2 : sProp 𝕄) = iprop(emp) from if_neg (by decide), show (deal 3 : sProp 𝕄) = iprop(emp) from if_neg (by decide)]
  have e : iprop(emp ∗ emp) = (iprop(emp) : sProp 𝕄) := BI.equiv_iff.mp sep_emp
  exact (congrArg (fun Y => iprop(_ ∗ emp ∗ Y)) e).trans ((congrArg (fun Y => iprop(_ ∗ Y)) e).trans (BI.equiv_iff.mp sep_emp))

/-! ## What a device may expect -/

/-- Who owes what on a cell of the barrier or of the receive semaphore: the neighbour, the round's amount. -/
theorem debt_at (k : Role) (hk : k = .gate ∨ k = .got) (d c : Dev nD) : debt d (cell k c) () = if d = mate c then units k else 0 := by
  have he : ∀ {k k' : Role} {a b : Dev nD}, cell k a = cell k' b → k = k' ∧ a = b := fun h =>
    ⟨sem_inj (congrArg Prod.snd h), congrArg (fun g : GSem nD τ sig => g.1.1) h⟩
  have hn : ∀ {k : Role}, (cell k c = cell k (mate d) ∧ () = ()) ↔ d = mate c := fun {k} =>
    ⟨fun h => by rw [(he h.1).2, mate_mate], fun h => by subst h; rw [mate_mate]; exact ⟨rfl, rfl⟩⟩
  unfold debt
  rw [Pi.add_apply, Finsupp.add_apply]
  rcases hk with rfl | rfl
  · rw [tallyAt_ne_cell (fun h => by cases (he h).1), Finsupp.zero_apply, Nat.zero_add, tallyAt_apply]
    exact if_congr hn rfl rfl
  · rw [tallyAt_ne_cell (g := cell .gate (mate d)) (fun h => by cases (he h).1), Finsupp.zero_apply, Nat.add_zero, tallyAt_apply]
    exact if_congr hn rfl rfl

/-- So that is what the launch credits to the cell. -/
theorem credit_at (k : Role) (hk : k = .gate ∨ k = .got) (c : Dev nD) :
    tallyOn (cell k c) (launchCredit (Pipeline.owing debt) 0 (cell k c)) = (tallyAt (cell k c) () (units k) : CellTallies nD τ sig Unit) := by
  unfold tallyAt
  refine congrArg _ (Finsupp.ext fun u => ?_)
  cases u
  rw [Pipeline.launchCredit_owing, Finsupp.single_eq_same, Finset.sum_congr rfl fun d _ => debt_at k hk d c,
    Finset.sum_ite_eq' Finset.univ (mate c) fun _ => units k, if_pos (Finset.mem_univ _)]

theorem credits (c : Dev nD) :
    (Pipeline.launchCred debt c : sProp 𝕄) ⊢ iprop(cred (tallyAt (cell .gate c) () 1) ∗ cred (tallyAt (cell .got c) () blkCredit)) := by
  unfold Pipeline.launchCred
  rw [bigSep_univ_at _ Role.gate.sem, credit_at .gate (.inl rfl)]
  refine sep_mono_right ?_
  rw [← show _ = (tallyAt (cell .got c) () blkCredit : CellTallies nD τ sig Unit) from credit_at .got (.inr rfl) c]
  exact bigSep_elim (Finset.mem_erase.mpr ⟨by decide, Finset.mem_univ _⟩)

/-! ## The start -/

/-- What the launch leaves with a device, besides ghost state, -/
def given (c : Dev nD) : sProp 𝕄 :=
  iprop(StableHlo.held (c.tc : Thread nD τ) bufs (V₀ m c) ∗ (∃ r, prngReg c r) ∗ (∃ W, owes (c : Thread nD τ) (debt c) W)
    ∗ cred (tallyAt (cell .gate c) () 1) ∗ cred (tallyAt (cell .got c) () blkCredit))
/-- and the ghost state it is dealt. -/
def dealt (c : Dev nD) : sProp 𝕄 :=
  iprop(reached EX (cell .gate (mate c)) 0 ∗ atPos EX (cell .gate c) 0 ∅ 0 ∗ openTok EX (cell .sent c) ∗ openTok EX (cell .got c) ∗ tokens c)

theorem start_intro (κ : GSem nD τ sig → ℕ) (c : Dev nD) : iprop(Invs (part (X m)) κ ∗ (dealt c ∗ given m c)) ⊢ start m c := by
  unfold dealt given start kept
  iintro ⟨#HI, ⟨Hr, Ha, Hs, Hg, Ht⟩, Hh, Hp, HO, H1, HN⟩
  isplitl [Hh]; · iexact Hh
  isplitr [Hp HO]
  · iexists κ
    isplitr; · iexact HI
    isplitl [Hr]; · iexact Hr
    isplitl [Ha]; · iexact Ha
    isplitl [Hs]; · iexact Hs
    isplitl [Hg]; · iexact Hg
    isplitl [Ht]; · iexact Ht
    isplitl [H1] <;> iassumption
  isplitl [Hp] <;> iassumption

theorem given_intro (c : Dev nD) :
    iprop(unscopedBufs c (fun b => m ((c : Thread nD τ).loc b)) ∗ unscopedSems0 c
        ∗ owes (c : Thread nD τ) (debt c) ∅ ∗ Pipeline.launchCred debt c ∗ prngReg c (ρ c) ∗ deal c)
      ⊢ (iprop(given m c ∗ semVal (cell .gate c) 0 ∗ deal c) : sProp 𝕄) := by
  rw [bufs_at_launch, sems_at_launch]
  unfold given
  iintro ⟨Hh, Hz, HO, Hc, Hp, Hd⟩
  ihave Hc := (credits (F := F) c) $$ Hc
  isplitr [Hz Hd]
  · isplitl [Hh]; · iexact Hh
    isplitl [Hp]; · iexists (ρ c); iexact Hp
    isplitl [HO]; · iexists ∅; iexact HO
    iexact Hc
  isplitl [Hz] <;> iassumption

/-- THE START, on all devices at once. -/
theorem init :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ c) ∗ deal c)) ∗ levAts Lv lvl)
      ⊢ (|={Set.univ}=> bigSep Finset.univ (start m) : sProp 𝕄) := by
  have hg : (bigSep Finset.univ fun c : Dev nD => iprop(given m c ∗ semVal (cell .gate c) 0 ∗ deal c))
      = (iprop((bigSep Finset.univ (given m)) ∗ bigSep live (fun g => semVal g 0) ∗ BI.own (EX (launchOf live closed duties))) : sProp 𝕄) := by
    rw [bigSep_sep', bigSep_sep', deal_all, by_device]
  have h := bigSep_mono (s := Finset.univ) fun (c : Dev nD) _ => given_intro m ρ c
  rw [hg] at h
  refine (sep_mono_left h).trans ?_
  iintro ⟨⟨Hgiven, Hz, Hu⟩, -⟩
  imod (Rounds.fund_launch EX (sched (part (X m))) live_closed (fun g _ h => h) duties) $$ [Hz Hu] with ⟨%κ, -, #HI, #Hr, Ha, Ho, Ht⟩
  · isplitl [Hz] <;> iassumption
  imodintro
  iapply (bigSep_with_persistent (R := Invs (part (X m)) κ) (Φ := fun c => iprop(dealt c ∗ given m c)) fun c _ => start_intro m κ c)
  isplitr
  · iapply (Entails.of_eq (invs_intro m κ)); iexact HI
  rw [bigSep_sep']
  isplitr [Hgiven]
  · unfold dealt
    rw [bigSep_sep', bigSep_sep', bigSep_sep', bigSep_sep']
    isplitr; · iapply (Entails.of_eq (reached_intro (F := F))); iexact Hr
    isplitl [Ha]; · iapply (Entails.of_eq (by_device (F := F) .gate fun g => atPos EX g 0 ∅ 0)); iexact Ha
    ihave Ho := (Entails.of_eq (opens_intro (F := F))) $$ Ho
    icases Ho with ⟨Hs, Hg⟩
    isplitl [Hs]; · iexact Hs
    isplitl [Hg]; · iexact Hg
    iapply (Entails.of_eq (tokens_intro (F := F))); iexact Ht
  · iexact Hgiven

/-! ## The run -/

theorem unscoped_sem : ∀ sm : SemLoc sig, sm.isScoped .tc = false → sm = Role.gate.sem := by decide

set_option backward.isDefEq.respectTransparency.types false in
/-- From any memory with every counter at zero, every fair run of the program ends; every device then has its argument as it was
    and its means in the result, and every counter of the machine is zero again. -/
theorem run_main : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_v2) = result m c) ∧ r.2.sem = fun _ => 0) :=
  Pipeline.θ_run_regions_kit_sems (pcfgs (F := F)) adm (dats m) () cellOf_inj EP defs₀ 𝒱₀ Lv lvl m ρ main (segs m)
    (fun c Q => by rw [main_segs adm (dats m) () 𝒱₀ Lv lvl (tail m) (region m) rfl c])
    (by simp only [segs, Pipeline.Seg.pipes_host, Pipeline.Seg.pipes_region, Pipeline.Seg.pipes_nil]; decide)
    (O₀ := debt) (hL := Lv_of_ne) (G := deal) (u₀ := u₀ (F := F))
    (hu₀ := by
      unfold u₀
      rw [deal_all]
      iintro Hu
      ihave H := (ownU_pair _ _) $$ Hu
      icases H with ⟨HP, HX⟩
      imodintro
      isplitl [HP] <;> iassumption)
    (T₀ := start m) (Tₙ := finish m)
    (hch := by
      refine ⟨fun c => start_region m c, fun c => region_tail m c, fun c => ?_⟩
      show iprop(StableHlo.held (c.tc : Thread nD τ) bufs (V₂ m c) ∗ carried c)
        ⊢ iprop(finish m c ∗ ∃ W, owes (c : Thread nD τ) (0 : CellTallies nD τ sig Unit) W)
      iintro ⟨Hh, Hz, HO⟩
      isplitr [HO]
      · isplitl [Hh] <;> iassumption
      · iexact HO)
    (hinit := init m ρ)
    (QY := fun c s => (s.mem ((c : Thread nD τ).loc main_arg0) = V₂ m c (Proc.devRef .tc main_arg0)
      ∧ s.mem ((c : Thread nD τ).loc main_v2) = V₂ m c (Proc.devRef .tc main_v2)) ∧ s.sem (cell .gate c) = 0)
    (hfin := fun c s' => by
      dsimp only [finish]
      rw [held_bufs]
      iintro ⟨⟨⟨Hx, -, Hy⟩, Hz⟩, HSI⟩
      icombine HSI Hx gives %hx
      icombine HSI Hy gives %hy
      icombine HSI Hz gives %hz
      imodintro
      isplitr
      · ipureintro
        exact ⟨⟨Buf.eq_of_forall_mem_univ hx, Buf.eq_of_forall_mem_univ hy⟩, by simpa using hz⟩
      iexact HSI)
    (hQ := fun s h hs => ⟨fun c => ⟨(h c).1.1.trans (V₂_in m c), (h c).1.2.trans (V₂_out m c)⟩,
      sem_eq_zero hs fun c sm hsm => by
        obtain rfl := unscoped_sem sm hsm
        exact (h c).2⟩)

end Cert.KernelIdeal.Exchange

end
-- ==== Proof.Bits.lean ====
/- The two kernel instances are one program text, printed once for each scalar type the claims are about. So the run
   proved of one (`KernelIdeal`, at every scalar type) is a run of the other (`Kernel`). -/
module

public import proofs.«01_k».proof.Proof.Ideal.Launch
public import proofs.«01_k».proof.Proof.Gen.Kernel

@[expose] public section

noncomputable section

namespace Cert.Kernel.Exchange

open Idealize.ShloMosaic Idealize.ShloMosaic.TcCoe Idealize.SL.Sem

variable {F : FTy → Type} [FloatOps F]

/-- The bodies of the two instances' calls are equal, label by label, -/
theorem defs₀_eq : Cert.Kernel.defs₀ (F := F) = Cert.KernelIdeal.defs₀ := by
  unfold Cert.Kernel.defs₀ Cert.KernelIdeal.defs₀
  refine congrArg Defs.onTc (funext fun l => ?_)
  obtain ⟨l, hl⟩ := l
  cases l with
  | zero => with_unfolding_all rfl
  | succ l => exact absurd hl (by simp)
/-- and so are the tables with their pipelines, -/
theorem defs_eq : Cert.Kernel.defs (F := F) = Cert.KernelIdeal.defs :=
  congrArg (Pipeline.defs (nD := Cert.KernelIdeal.nD) (τ := Cert.KernelIdeal.τ) Cert.KernelIdeal.pcfgs) defs₀_eq
/-- and the programs. -/
theorem main_eq : Cert.Kernel.main (F := F) = Cert.KernelIdeal.main := by with_unfolding_all rfl

/-- From any memory with every counter at zero, every fair run of `Kernel` ends, with the argument on every device as it
    was and every counter of the machine at zero again. -/
theorem run_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD, r.2.mem ((c.tc : Thread Cert.Kernel.nD Cert.Kernel.τ).loc Cert.Kernel.main_arg0)
          = m ((c.tc : Thread Cert.Kernel.nD Cert.Kernel.τ).loc Cert.Kernel.main_arg0)) ∧ r.2.sem = fun _ => 0) := by
  rw [defs_eq, main_eq]
  exact (θ_run (Cert.KernelIdeal.defs (F := F)) _ _).mono (fun r h => ⟨fun c => (h.1 c).1, h.2⟩) (Cert.KernelIdeal.Exchange.run_main m ρ)

end Cert.Kernel.Exchange

end
-- ==== Proof.Value.lean ====
/- The two programs' results as real-number formulas, index by index, at the ideal scalars: a row of the kernel's result is the
   sum of the two half-row sums times 1/1024, a row of the reference's is the whole row's sum divided by 1024. -/
module

public import proofs.«01_k».proof.Proof.Ideal.Launch
public import proofs.«01_k».proof.Proof.Gen.ReferenceIdeal.Run
public import Idealize.ShloMosaic.Lib.Pointwise
public import Idealize.ShloMosaic.Lib.IdealHost

@[expose] public section

set_option maxRecDepth 16384

noncomputable section

namespace Cert.RowMean

open Idealize.ShloMosaic Idealize.ShloMosaic.TcCoe
open Cert.KernelIdeal Cert.KernelIdeal.Gen Cert.KernelIdeal.Exchange

/-- The divisor, and the factor the kernel uses in its place. -/
theorem ofBits_1024 : Ideal.ofBits .f32 0x44800000#32 = ((1024 : ℝ) : EReal) := by
  simp [Ideal.ofBits, Ideal.ieee, -EReal.coe_mul]; norm_num
theorem ofBits_inv_1024 : Ideal.ofBits .f32 0x3A800000#32 = ((1 / 1024 : ℝ) : EReal) := by
  simp [Ideal.ofBits, Ideal.ieee, -EReal.coe_mul]; norm_num

/-- The kernel's result on device `c`, row `r`. -/
theorem result_at (m : (ℓ : Loc nD τ sig) → Buf (Elt Ideal) ℓ) (c : Dev nD) (r : Fin 1024) (z : Fin 1) :
    result (F := Ideal) m c (ix2 r z)
      = ((∑ k : Fin 512, X m c (ix2 r k)) + ∑ k : Fin 512, X m (mate c) (ix2 r k)) * ((1 / 1024 : ℝ) : EReal) := by
  rw [← ofBits_inv_1024]
  show shapeCast S1024x1 (mean (X m) c) shapeCasts_S8x128_S1024x1 (ix2 r z) = _
  pointwise [mean, part, k0_pay1, k0_pay2]

/-- What the reference computes of a whole array. -/
abbrev whole (w : FVec Ideal Cert.ReferenceIdeal.S2048x1024 .f32) : FVec Ideal Cert.ReferenceIdeal.S2048x1 .f32 :=
  Host.divf (broadcastInDim Cert.ReferenceIdeal.S2048x1 ![0] Cert.ReferenceIdeal.Facts₀.bcast_S2048_S2048x1_0
      (Host.reduceAdd w (constant Cert.ReferenceIdeal.S_ .f32 0x00000000#32) Cert.ReferenceIdeal.Facts₀.reducesTo_S2048x1024_S2048_d1 Cert.ReferenceIdeal.Facts₀.h_S_))
    (broadcastInDim Cert.ReferenceIdeal.S2048x1 ![] Cert.ReferenceIdeal.Facts₀.bcast_S_S2048x1 (constant Cert.ReferenceIdeal.S_ .f32 0x44800000#32))

/-- Row `r` of it. -/
theorem whole_at (w : FVec Ideal Cert.ReferenceIdeal.S2048x1024 .f32) (r : Fin 2048) (z : Fin 1) :
    whole w (ix2 r z) = (∑ k : Fin 1024, w (ix2 r k)) * ((1 / 1024 : ℝ) : EReal) := by
  pointwise [whole]
  rw [ofBits_1024, Ideal.div_coe (by norm_num)]

/-! ## The blocks on the mesh -/

/-- The row and the column at which device `c`'s block of the whole array has its row `r` and column `k`. -/
def rowOf (c : Dev nD) (r : Fin 1024) : Fin 2048 := ⟨c.val / 2 * 1024 + r.val, by have := c.isLt; have : nD = 4 := rfl; omega⟩
def colOf (c : Dev nD) (k : Fin 512) : Fin 1024 := ⟨c.val % 2 * 512 + k.val, by omega⟩

theorem block_in (c : Dev nD) (w : FVec Ideal Cert.ReferenceIdeal.S2048x1024 .f32) (r : Fin 1024) (k : Fin 512) :
    Layout.blockN ⟨2, ![1024, 512]⟩ ⟨2, ![2048, 1024]⟩ (Layout.meshBlock [2, 2] ![[0], [1]] c) w (by decide) (ix2 r k) = w (ix2 (rowOf c r) (colOf c k)) := by
  rw [Layout.blockN_apply]
  refine congrArg w (funext fun b => Fin.ext ?_)
  rw [Layout.TilesN.idx_val]
  revert c
  fin_cases b
  · intro c; fin_cases c <;> simp [rowOf, Layout.meshLin, Layout.meshCoord, Layout.cutSize]
  · intro c; fin_cases c <;> simp [colOf, Layout.meshLin, Layout.meshCoord, Layout.cutSize]

theorem block_out (c : Dev nD) (v : FVec Ideal Cert.ReferenceIdeal.S2048x1 .f32) (r : Fin 1024) (z : Fin 1) :
    Layout.blockN ⟨2, ![1024, 1]⟩ ⟨2, ![2048, 1]⟩ (Layout.meshBlock [2, 2] ![[0], []] c) v (by decide) (ix2 r z) = v (ix2 (rowOf c r) z) := by
  rw [Layout.blockN_apply]
  refine congrArg v (funext fun b => Fin.ext ?_)
  rw [Layout.TilesN.idx_val]
  revert c
  fin_cases b
  · intro c; fin_cases c <;> simp [rowOf, Layout.meshLin, Layout.meshCoord, Layout.cutSize]
  · intro c; fin_cases c <;> simp [Layout.meshLin, Layout.meshCoord, Layout.cutSize]

/-- Neighbours lie in one row of the mesh, and between them have every column. -/
theorem row_mate (c : Dev nD) (r : Fin 1024) : rowOf (mate c) r = rowOf c r :=
  Fin.ext (by revert c; intro c; fin_cases c <;> rfl)
theorem sum_cols (c : Dev nD) (f : Fin 1024 → EReal) :
    (∑ k : Fin 512, f (colOf c k)) + ∑ k : Fin 512, f (colOf (mate c) k) = ∑ k : Fin 1024, f k := by
  have h0 : ∀ d : Dev nD, d.val % 2 = 0 → (∑ k : Fin 512, f (colOf d k)) = ∑ k : Fin 512, f ⟨k.val, by omega⟩ := fun d h =>
    Finset.sum_congr rfl fun k _ => congrArg f (Fin.ext (by show d.val % 2 * 512 + k.val = k.val; omega))
  have h1 : ∀ d : Dev nD, d.val % 2 = 1 → (∑ k : Fin 512, f (colOf d k)) = ∑ k : Fin 512, f ⟨512 + k.val, by omega⟩ := fun d h =>
    Finset.sum_congr rfl fun k _ => congrArg f (Fin.ext (by show d.val % 2 * 512 + k.val = 512 + k.val; omega))
  have hm : (mate c).val % 2 = 1 - c.val % 2 := by revert c; decide
  rw [Fin.sum_univ_two_halves 512 512 rfl f]
  rcases Nat.mod_two_eq_zero_or_one c.val with h | h
  · rw [h0 c h, h1 (mate c) (by omega)]
  · rw [h1 c h, h0 (mate c) (by omega), add_comm]

/-- The kernel's result on each device is its block of what the reference computes of the whole. -/
theorem result_eq (m : (ℓ : Loc nD τ sig) → Buf (Elt Ideal) ℓ) (w : FVec Ideal Cert.ReferenceIdeal.S2048x1024 .f32)
    (h : ∀ c : Dev nD, X m c = Layout.blockN ⟨2, ![1024, 512]⟩ ⟨2, ![2048, 1024]⟩ (Layout.meshBlock [2, 2] ![[0], [1]] c) w (by decide)) (c : Dev nD) :
    result (F := Ideal) m c = Layout.blockN ⟨2, ![1024, 1]⟩ ⟨2, ![2048, 1]⟩ (Layout.meshBlock [2, 2] ![[0], []] c) (whole w) (by decide) := by
  funext i
  obtain ⟨r, z, rfl⟩ : ∃ (r : Fin 1024) (z : Fin 1), i = ix2 r z := ⟨i 0, i 1, eq_ix2 i⟩
  rw [result_at, block_out, whole_at, h c, h (mate c)]
  simp only [block_in, row_mate]
  rw [sum_cols c fun k => w (ix2 (rowOf c r) k)]

end Cert.RowMean

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame: it ends, its argument and the counters as they were. -/
theorem kernel_frame : Cert.quiescent_Kernel (hKernel := Cert.Kernel.Gen.facts) := fun m g _ =>
  Cert.Kernel.Exchange.run_frame (F := Bits) m g

/-- The ideal instance's frame. -/
theorem ideal_frame : Cert.quiescent_KernelIdeal (hKernelIdeal := Cert.KernelIdeal.Gen.facts) := fun m g _ =>
  (θ_run (Cert.KernelIdeal.defs (F := Ideal)) _ _).mono (fun _ h => ⟨fun c => (h.1 c).1, h.2⟩)
    (Cert.KernelIdeal.Exchange.run_main (F := Ideal) m g)

/-- The reference's frame; it has no semaphore at all. -/
theorem reference_frame : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- The kernel's result is the reference's, block by block. -/
theorem values : Cert.algebraic_KernelIdeal_ReferenceIdeal (hKernelIdeal := Cert.KernelIdeal.Gen.facts)
    (hReferenceIdeal := Cert.ReferenceIdeal.Gen.facts) := fun m g m' g' _ hm =>
  ⟨Cert.RowMean.whole (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun _ h c => ⟨(h.1 c).2.trans (Cert.RowMean.result_eq m _ hm c), (h.1 c).1⟩) (Cert.KernelIdeal.Exchange.run_main (F := Ideal) m g),
    (θ_run (Cert.ReferenceIdeal.defs (F := Ideal)) _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  kernel_frame, ideal_frame, reference_frame, trivial, values⟩

end Cert.Proof

end
